-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt_p" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x1024 : Shape := ⟨3, ![16, 2048, 1024]⟩
abbrev S16x2048 : Shape := ⟨2, ![16, 2048]⟩
abbrev S4x1024 : Shape := ⟨2, ![4, 1024]⟩
abbrev S128x1024 : Shape := ⟨2, ![128, 1024]⟩
abbrev S128 : Shape := ⟨1, ![128]⟩
abbrev S1024x4096 : Shape := ⟨2, ![1024, 4096]⟩
abbrev S1024 : Shape := ⟨1, ![1024]⟩
abbrev S_ : Shape := ⟨0, ![]⟩
abbrev S16x2048x1 : Shape := ⟨3, ![16, 2048, 1]⟩

class Facts : Prop where
  bcast_S_S16x2048x1024 : S_.BroadcastsInDim S16x2048x1024 (![] : Fin 0 → Fin S16x2048x1024.rank)
  bcast_S16x2048_S16x2048x1_0_1 : S16x2048.BroadcastsInDim S16x2048x1 (![0, 1] : Fin 2 → Fin S16x2048x1.rank)
  bcast_S16x2048x1_S16x2048x1024_0_1_2 : S16x2048x1.BroadcastsInDim S16x2048x1024 (![0, 1, 2] : Fin 3 → Fin S16x2048x1024.rank)
  bcast_S_S4x1024 : S_.BroadcastsInDim S4x1024 (![] : Fin 0 → Fin S4x1024.rank)
  bcast_S_S128x1024 : S_.BroadcastsInDim S128x1024 (![] : Fin 0 → Fin S128x1024.rank)
  bcast_S_S128 : S_.BroadcastsInDim S128 (![] : Fin 0 → Fin S128.rank)

variable [Facts]

def fn {F : FTy → Type} [FloatOps F] (main_arg0 : FVec F S16x2048x1024 .f32) (main_arg1 : IVec S16x2048 1) (main_arg2 : FVec F S4x1024 .f32) (main_arg3 : FVec F S128x1024 .f32) (main_arg4 : FVec F S128 .f32) (main_arg5 : FVec F S128x1024 .f32) (main_arg6 : FVec F S128 .f32) (main_arg7 : FVec F S1024x4096 .f32) (main_arg8 : FVec F S1024 .f32) (main_arg9 : FVec F S1024 .f32) : IVec S16x2048x1024 1 × IVec S4x1024 1 × IVec S128x1024 1 × IVec S128 1 × IVec S128x1024 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : IVec S16x2048x1 1 := broadcastInDim S16x2048x1 ![0, 1] bcast_S16x2048_S16x2048x1_0_1 main_arg1
  let main_v4 : IVec S16x2048x1 1 := noti main_v3
  let main_v5 : IVec S16x2048x1024 1 := broadcastInDim S16x2048x1024 ![0, 1, 2] bcast_S16x2048x1_S16x2048x1024_0_1_2 main_v4
  let main_v6 : IVec S16x2048x1024 1 := ori main_v2 main_v5
  let main_v7 : FVec F S4x1024 .f32 := Host.absf main_arg2
  let main_cst_0 : FVec F S_ .f32 := constant S_ .f32 0x7F800000#32
  let main_v8 : FVec F S4x1024 .f32 := broadcastInDim S4x1024 ![] bcast_S_S4x1024 main_cst_0
  let main_v9 : IVec S4x1024 1 := cmpf .olt main_v7 main_v8
  let main_v10 : FVec F S128x1024 .f32 := Host.absf main_arg3
  let main_cst_1 : FVec F S_ .f32 := constant S_ .f32 0x7F800000#32
  let main_v11 : FVec F S128x1024 .f32 := broadcastInDim S128x1024 ![] bcast_S_S128x1024 main_cst_1
  let main_v12 : IVec S128x1024 1 := cmpf .olt main_v10 main_v11
  let main_v13 : FVec F S128 .f32 := Host.absf main_arg4
  let main_cst_2 : FVec F S_ .f32 := constant S_ .f32 0x7F800000#32
  let main_v14 : FVec F S128 .f32 := broadcastInDim S128 ![] bcast_S_S128 main_cst_2
  let main_v15 : IVec S128 1 := cmpf .olt main_v13 main_v14
  let main_v16 : FVec F S128x1024 .f32 := Host.absf main_arg5
  let main_cst_3 : FVec F S_ .f32 := constant S_ .f32 0x7F800000#32
  let main_v17 : FVec F S128x1024 .f32 := broadcastInDim S128x1024 ![] bcast_S_S128x1024 main_cst_3
  let main_v18 : IVec S128x1024 1 := cmpf .olt main_v16 main_v17
  (main_v6, main_v9, main_v12, main_v15, main_v18)
-- ==== Kernel.lean ====
abbrev S16x2048x1024 : Shape := ⟨3, ![16, 2048, 1024]⟩
abbrev S16x2048 : Shape := ⟨2, ![16, 2048]⟩
abbrev S4x1024 : Shape := ⟨2, ![4, 1024]⟩
abbrev S128x1024 : Shape := ⟨2, ![128, 1024]⟩
abbrev S128 : Shape := ⟨1, ![128]⟩
abbrev S1024x4096 : Shape := ⟨2, ![1024, 4096]⟩
abbrev S1024 : Shape := ⟨1, ![1024]⟩
abbrev S16x1x2048 : Shape := ⟨3, ![16, 1, 2048]⟩
abbrev S1x128 : Shape := ⟨2, ![1, 128]⟩
abbrev S1x1024 : Shape := ⟨2, ![1, 1024]⟩
abbrev S16x1024 : Shape := ⟨2, ![16, 1024]⟩
abbrev S2x2048x1024 : Shape := ⟨3, ![2, 2048, 1024]⟩
abbrev S2x1x2048 : Shape := ⟨3, ![2, 1, 2048]⟩
abbrev S16x4x1024 : Shape := ⟨3, ![16, 4, 1024]⟩
abbrev S4x1 : Shape := ⟨2, ![4, 1]⟩
abbrev S_ : Shape := ⟨0, ![]⟩
abbrev S4x128 : Shape := ⟨2, ![4, 128]⟩
abbrev S4 : Shape := ⟨1, ![4]⟩
abbrev S1x2048x1024 : Shape := ⟨3, ![1, 2048, 1024]⟩
abbrev S2048x1024 : Shape := ⟨2, ![2048, 1024]⟩
abbrev S4x2048 : Shape := ⟨2, ![4, 2048]⟩
abbrev S1x1x2048 : Shape := ⟨3, ![1, 1, 2048]⟩
abbrev S1x2048 : Shape := ⟨2, ![1, 2048]⟩
abbrev S1x4x1024 : Shape := ⟨3, ![1, 4, 1024]⟩
abbrev S16x1x1024 : Shape := ⟨3, ![16, 1, 1024]⟩
abbrev S1024x1024 : Shape := ⟨2, ![1024, 1024]⟩
abbrev S16 : Shape := ⟨1, ![16]⟩
abbrev S16x1 : Shape := ⟨2, ![16, 1]⟩

abbrev nBuf : Space → Nat
  | .hbm => 17
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S4x1024, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x4096, .f32⟩
  | .hbm, ⟨8, _⟩ => ⟨S1024, .f32⟩
  | .hbm, ⟨9, _⟩ => ⟨S1024, .f32⟩
  | .hbm, ⟨10, _⟩ => ⟨S16x2048, .f32⟩
  | .hbm, ⟨11, _⟩ => ⟨S16x1x2048, .f32⟩
  | .hbm, ⟨12, _⟩ => ⟨S1x128, .f32⟩
  | .hbm, ⟨13, _⟩ => ⟨S1x128, .f32⟩
  | .hbm, ⟨14, _⟩ => ⟨S1x1024, .f32⟩
  | .hbm, ⟨15, _⟩ => ⟨S1x1024, .f32⟩
  | .hbm, ⟨16, _⟩ => ⟨S16x1024, .f32⟩
  | .local _ .vmem, ⟨0, _⟩ => ⟨S2x2048x1024, .f32⟩
  | .local _ .vmem, ⟨1, _⟩ => ⟨S2x2048x1024, .f32⟩
  | .local _ .vmem, ⟨2, _⟩ => ⟨S2x1x2048, .f32⟩
  | .local _ .vmem, ⟨3, _⟩ => ⟨S2x1x2048, .f32⟩
  | .local _ .vmem, ⟨4, _⟩ => ⟨S4x1024, .f32⟩
  | .local _ .vmem, ⟨5, _⟩ => ⟨S128x1024, .f32⟩
  | .local _ .vmem, ⟨6, _⟩ => ⟨S1x128, .f32⟩
  | .local _ .vmem, ⟨7, _⟩ => ⟨S128x1024, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S16x1024, .f32⟩
  | .local _ .vmem, ⟨12, _⟩ => ⟨S16x4x1024, .f32⟩
  | .local _ .vmem, ⟨13, _⟩ => ⟨S4x1024, .f32⟩
  | .local _ .vmem, ⟨14, _⟩ => ⟨S4x1, .f32⟩
  | .local _ .vmem, ⟨15, _⟩ => ⟨S1024x4096, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![8], ![false]⟩

def k0_off1 (i : grid0.Coords) (c0_i32_17 : BitVec 32) : Fin 3 → Nat :=
  let arg0 : BitVec 32 := BitVec.ofNat 32 (i 0).val
  let c2_i32 : BitVec 32 := 2#32
  let v36 : BitVec 32 := Scalar.muli arg0 c2_i32
  let v37 : BitVec 32 := Scalar.addi v36 c0_i32_17
  let v38 : Index := Scalar.indexCast v37
  let c0_18 : Index := 0#32
  let c0_19 : Index := 0#32
  ![v38.toNat, 0, 0]
def k0_cond2 (i : grid0.Coords) : BitVec 1 :=
  let arg0 : BitVec 32 := BitVec.ofNat 32 (i 0).val
  let c7_i32 : BitVec 32 := 7#32
  let v80 : BitVec 1 := Scalar.cmpi .eq arg0 c7_i32
  let v81 : BitVec 32 := Scalar.extui v80
  let c0_i32_38 : BitVec 32 := 0#32
  let v82 : BitVec 1 := Scalar.cmpi .ne v81 c0_i32_38
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_sqrt_p" => some (((Real.sqrt 128)⁻¹ : ℝ) : EReal)
  | _ => none
-- ==== ReferenceIdeal.lean ====
abbrev S16x2048x1024 : Shape := ⟨3, ![16, 2048, 1024]⟩
abbrev S16x2048 : Shape := ⟨2, ![16, 2048]⟩
abbrev S4x1024 : Shape := ⟨2, ![4, 1024]⟩
abbrev S128x1024 : Shape := ⟨2, ![128, 1024]⟩
abbrev S128 : Shape := ⟨1, ![128]⟩
abbrev S1024x4096 : Shape := ⟨2, ![1024, 4096]⟩
abbrev S1024 : Shape := ⟨1, ![1024]⟩
abbrev S1024x128 : Shape := ⟨2, ![1024, 128]⟩
abbrev S4x128 : Shape := ⟨2, ![4, 128]⟩
abbrev S1x128 : Shape := ⟨2, ![1, 128]⟩
abbrev S16x2048x128 : Shape := ⟨3, ![16, 2048, 128]⟩
abbrev S1x1x128 : Shape := ⟨3, ![1, 1, 128]⟩
abbrev S16x2048x4 : Shape := ⟨3, ![16, 2048, 4]⟩
abbrev S16x4x2048 : Shape := ⟨3, ![16, 4, 2048]⟩
abbrev S_ : Shape := ⟨0, ![]⟩
abbrev S16x1x2048 : Shape := ⟨3, ![16, 1, 2048]⟩
abbrev S16x4 : Shape := ⟨2, ![16, 4]⟩
abbrev S16x4x1 : Shape := ⟨3, ![16, 4, 1]⟩
abbrev S16x4x1024 : Shape := ⟨3, ![16, 4, 1024]⟩
abbrev S16x4096 : Shape := ⟨2, ![16, 4096]⟩
abbrev S4096x1024 : Shape := ⟨2, ![4096, 1024]⟩
abbrev S16x1024 : Shape := ⟨2, ![16, 1024]⟩
abbrev S16 : Shape := ⟨1, ![16]⟩
abbrev S16x1 : Shape := ⟨2, ![16, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S4x1024, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x4096, .f32⟩
  | .hbm, ⟨8, _⟩ => ⟨S1024, .f32⟩
  | .hbm, ⟨9, _⟩ => ⟨S1024, .f32⟩
  | .hbm, ⟨10, _⟩ => ⟨S1024x128, .f32⟩
  | .hbm, ⟨11, _⟩ => ⟨S4x128, .f32⟩
  | .hbm, ⟨12, _⟩ => ⟨S1x128, .f32⟩
  | .hbm, ⟨13, _⟩ => ⟨S4x128, .f32⟩
  | .hbm, ⟨14, _⟩ => ⟨S4x128, .f32⟩
  | .hbm, ⟨15, _⟩ => ⟨S1024x128, .f32⟩
  | .hbm, ⟨16, _⟩ => ⟨S16x2048x128, .f32⟩
  | .hbm, ⟨17, _⟩ => ⟨S1x1x128, .f32⟩
  | .hbm, ⟨18, _⟩ => ⟨S16x2048x128, .f32⟩
  | .hbm, ⟨19, _⟩ => ⟨S16x2048x128, .f32⟩
  | .hbm, ⟨20, _⟩ => ⟨S16x2048x4, .f32⟩
  | .hbm, ⟨21, _⟩ => ⟨S16x4x2048, .f32⟩
  | .hbm, ⟨22, _⟩ => ⟨S_, .f32⟩
  | .hbm, ⟨23, _⟩ => ⟨S_, .f32⟩
  | .hbm, ⟨24, _⟩ => ⟨S16x4x2048, .f32⟩
  | .hbm, ⟨25, _⟩ => ⟨S16x4x2048, .f32⟩
  | .hbm, ⟨26, _⟩ => ⟨S16x1x2048, .i1⟩
  | .hbm, ⟨27, _⟩ => ⟨S_, .f32⟩
  | .hbm, ⟨28, _⟩ => ⟨S16x4x2048, .i1⟩
  | .hbm, ⟨29, _⟩ => ⟨S16x4x2048, .f32⟩
  | .hbm, ⟨30, _⟩ => ⟨S16x4x2048, .f32⟩
  | .hbm, ⟨31, _⟩ => ⟨S_, .f32⟩
  | .hbm, ⟨32, _⟩ => ⟨S16x4, .f32⟩
  | .hbm, ⟨33, _⟩ => ⟨S_, .f32⟩
  | .hbm, ⟨34, _⟩ => ⟨S16x4, .f32⟩
  | .hbm, ⟨35, _⟩ => ⟨S16x4, .f32⟩
  | .hbm, ⟨36, _⟩ => ⟨S16x4x1, .f32⟩
  | .hbm, ⟨37, _⟩ => ⟨S16x4x2048, .f32⟩
  | .hbm, ⟨38, _⟩ => ⟨S16x4x2048, .f32⟩
  | .hbm, ⟨39, _⟩ => ⟨S16x4x2048, .f32⟩
  | .hbm, ⟨40, _⟩ => ⟨S_, .f32⟩
  | .hbm, ⟨41, _⟩ => ⟨S16x4, .f32⟩
  | .hbm, ⟨42, _⟩ => ⟨S16x4x1, .f32⟩
  | .hbm, ⟨43, _⟩ => ⟨S16x4x2048, .f32⟩
  | .hbm, ⟨44, _⟩ => ⟨S16x4x2048, .f32⟩
  | .hbm, ⟨45, _⟩ => ⟨S16x1x2048, .f32⟩
  | .hbm, ⟨46, _⟩ => ⟨S16x4x2048, .f32⟩
  | .hbm, ⟨47, _⟩ => ⟨S16x4x2048, .f32⟩
  | .hbm, ⟨48, _⟩ => ⟨S_, .f32⟩
  | .hbm, ⟨49, _⟩ => ⟨S16x4, .f32⟩
  | .hbm, ⟨50, _⟩ => ⟨S16x4x1, .f32⟩
  | .hbm, ⟨51, _⟩ => ⟨S_, .f32⟩
  | .hbm, ⟨52, _⟩ => ⟨S16x4x1, .f32⟩
  | .hbm, ⟨53, _⟩ => ⟨S16x4x1, .f32⟩
  | .hbm, ⟨54, _⟩ => ⟨S16x4x2048, .f32⟩
  | .hbm, ⟨55, _⟩ => ⟨S16x4x2048, .f32⟩
  | .hbm, ⟨56, _⟩ => ⟨S16x4x1024, .f32⟩
  | .hbm, ⟨57, _⟩ => ⟨S16x4096, .f32⟩
  | .hbm, ⟨58, _⟩ => ⟨S4096x1024, .f32⟩
  | .hbm, ⟨59, _⟩ => ⟨S16x1024, .f32⟩
  | .hbm, ⟨60, _⟩ => ⟨S_, .f32⟩
  | .hbm, ⟨61, _⟩ => ⟨S16, .f32⟩
  | .hbm, ⟨62, _⟩ => ⟨S16x1, .f32⟩
  | .hbm, ⟨63, _⟩ => ⟨S_, .f32⟩
  | .hbm, ⟨64, _⟩ => ⟨S16x1, .f32⟩
  | .hbm, ⟨65, _⟩ => ⟨S16x1, .f32⟩
  | .hbm, ⟨66, _⟩ => ⟨S16x1024, .f32⟩
  | .hbm, ⟨67, _⟩ => ⟨S16x1024, .f32⟩
  | .hbm, ⟨68, _⟩ => ⟨S16x1024, .f32⟩
  | .hbm, ⟨69, _⟩ => ⟨S_, .f32⟩
  | .hbm, ⟨70, _⟩ => ⟨S16, .f32⟩
  | .hbm, ⟨71, _⟩ => ⟨S16x1, .f32⟩
  | .hbm, ⟨72, _⟩ => ⟨S_, .f32⟩
  | .hbm, ⟨73, _⟩ => ⟨S16x1, .f32⟩
  | .hbm, ⟨74, _⟩ => ⟨S16x1, .f32⟩
  | .hbm, ⟨75, _⟩ => ⟨S16x1024, .f32⟩
  | .hbm, ⟨76, _⟩ => ⟨S16x1024, .f32⟩
  | .hbm, ⟨77, _⟩ => ⟨S_, .f32⟩
  | .hbm, ⟨78, _⟩ => ⟨S16x1, .f32⟩
  | .hbm, ⟨79, _⟩ => ⟨S16x1, .f32⟩
  | .hbm, ⟨80, _⟩ => ⟨S16x1, .f32⟩
  | .hbm, ⟨81, _⟩ => ⟨S16x1024, .f32⟩
  | .hbm, ⟨82, _⟩ => ⟨S16x1024, .f32⟩
  | .hbm, ⟨83, _⟩ => ⟨S1x1024, .f32⟩
  | .hbm, ⟨84, _⟩ => ⟨S16x1024, .f32⟩
  | .hbm, ⟨85, _⟩ => ⟨S16x1024, .f32⟩
  | .hbm, ⟨86, _⟩ => ⟨S1x1024, .f32⟩
  | .hbm, ⟨87, _⟩ => ⟨S16x1024, .f32⟩
  | .hbm, ⟨88, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Proof.Same.lean ====
/-  At bit patterns a named constant is its word, so the kernel with the constant named is the kernel itself: one program,
    whose frame serves both. -/
module

public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem

/-- A named constant read as its word. -/
@[reducible] def plain : Named Bits := ⟨fun _ _ φ b => Scalar.ofBits φ b⟩

attribute [local instance] plain

/-- The two programs declare the same buffers and cells. -/
theorem sig_eq : Cert.Kernel.sig = Cert.KernelIdeal.sig := rfl

/-- The two programs are one. -/
theorem main_eq : (Cert.Kernel.main (F := Bits)) = Cert.KernelIdeal.main (F := Bits) := rfl

/-- The kernels they launch are one. -/
theorem defs0_eq : (Cert.Kernel.defs₀ (F := Bits)) = Cert.KernelIdeal.defs₀ (F := Bits) := by
  unfold Cert.Kernel.defs₀ Cert.KernelIdeal.defs₀
  refine congrArg (Defs.onTc (nD := 1) (τ := Topo.v7x) (sig := Cert.KernelIdeal.sig) (Val := Elt Bits) (Λ := Cert.KernelIdeal.Λ₀)) ?_
  funext l a
  match l, a with
  | ⟨0, _⟩, (t, s) => rfl

/-- With their launches' own procedures, too. -/
theorem defs_eq : (Cert.Kernel.defs (F := Bits)) = Cert.KernelIdeal.defs (F := Bits) :=
  congrArg (Pipeline.defs Cert.KernelIdeal.pcfgs) defs0_eq

end Cert.Same

end
-- ==== Proof.Setup.lean ====
/-
  The launch of the kernel, set up for a body with a transfer of its own: @main up to the region, the DMA cell and
  the array the transfer reads, the scratch buffers, and the vocabulary in which the invariant is stated.
-/
module

public import proofs.«01_k».proof.Proof.Gen.KernelIdeal.Skeleton
public import proofs.«01_k».proof.Proof.Gen.KernelIdeal.Frame
public import Idealize.ShloMosaic.Lib.Pipeline.Value
public import Idealize.ShloMosaic.Lib.Pipeline.FrameValue
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The propositions of the proof: the pipeline's user algebra beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at this algebra: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The buffers the pipeline does not stage -/

/-- The per-batch head sums of the tokens, gathered over the grid. -/
abbrev scG : Memref sig .tc .vmem S16x4x1024 .f32 := Memref.whole cc0_scratch0
/-- The folded query rows. -/
abbrev scQ : Memref sig .tc .vmem S4x1024 .f32 := Memref.whole cc0_scratch1
/-- The folded bias, one number a head. -/
abbrev scC : Memref sig .tc .vmem S4x1 .f32 := Memref.whole cc0_scratch2
/-- Where the output weights land. -/
abbrev scW : Memref sig .tc .vmem S1024x4096 .f32 := Memref.whole cc0_scratch3
/-- The output weights in HBM. -/
abbrev hbW : Memref sig .tc .hbm S1024x4096 .f32 := Memref.whole main_arg7

/-- A buffer held whole at the contents `f`. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-- The transfer of the output weights on its way: what it lands and the array it reads come back when it is awaited. -/
abbrev flying (c : Dev nD) (w : Buf (Elt F) (hbW.view.loc (c : Thread nD τ))) (f : Buf (Elt F) (scW.view.loc (c : Thread nD τ))) : sProp 𝕄 :=
  Transfers.Flight (countersEmb (U := Pipeline.UD sig nD τ)) (c : Thread nD τ) (.dma 12) () (scW.view.amount (SemLoc.dma 12))
    iprop((scW.view.loc (c : Thread nD τ) ↦{fullShare} f) ∗ (hbW.view.loc (c : Thread nD τ) ↦[hbW.view.set]{fullShare} w))

/-! ## What the body computes, from what it loads -/

/-- The first batch of a block of two: its token rows and its mask row. -/
abbrev tok0 (x : Vec F S2x2048x1024 .f32) : Vec F S1x2048x1024 .f32 :=
  View.ld (Val := Elt F) x (Rect.unit (s := S2x2048x1024) ![0, 0, 0] S1x2048x1024.size inb_S2x2048x1024_S1x2048x1024_0_0_0)
/-- The mask row of the first token block. -/
abbrev msk0 (k : Vec F S2x1x2048 .f32) : Vec F S1x1x2048 .f32 :=
  View.ld (Val := Elt F) k (Rect.unit (s := S2x1x2048) ![0, 0, 0] S1x1x2048.size inb_S2x1x2048_S1x1x2048_0_0_0)
/-- The second batch of the block. -/
abbrev tok1 (x : Vec F S2x2048x1024 .f32) : Vec F S1x2048x1024 .f32 :=
  View.ld (Val := Elt F) x (Rect.unit (s := S2x2048x1024) ![1, 0, 0] S1x2048x1024.size inb_S2x2048x1024_S1x2048x1024_1_0_0)
/-- The mask row of the second token block. -/
abbrev msk1 (k : Vec F S2x1x2048 .f32) : Vec F S1x1x2048 .f32 :=
  View.ld (Val := Elt F) k (Rect.unit (s := S2x1x2048) ![1, 0, 0] S1x1x2048.size inb_S2x1x2048_S1x1x2048_1_0_0)

/-- The gathered sums after the point of coordinates `i`: its two batches' rows written over `g`, from the point's
    tokens `x` and mask `k`, the folded queries `q` and the folded bias `b`. -/
def grown (i : grid0.Coords) (g : Vec F S16x4x1024 .f32) (q : Vec F S4x1024 .f32) (b : Vec F S4x1 .f32)
    (x : Vec F S2x2048x1024 .f32) (k : Vec F S2x1x2048 .f32) : Vec F S16x4x1024 .f32 :=
  scG.view.writes (Elt F) g
    [⟨Rect.unit (s := S16x4x1024) (k0_off1 i 1#32) S1x4x1024.size (k0_off1_inb i 1), k0_pay1 (k0_pay12 b (tok1 x) q (msk1 k))⟩,
      ⟨Rect.unit (s := S16x4x1024) (k0_off1 i 0#32) S1x4x1024.size (k0_off1_inb i 0), k0_pay11 (k0_pay10 b (tok0 x) q (msk0 k))⟩]

/-- Head `h`'s row of every batch, and the columns of the output weights that meet it. -/
abbrev headRow (h : ℕ) (inb : ∀ a, (![0, h, 0] : Fin 3 → ℕ) a + S16x1x1024.size a ≤ S16x4x1024.size a) (g : Vec F S16x4x1024 .f32) : Vec F S16x1x1024 .f32 :=
  View.ld (Val := Elt F) g (Rect.unit (s := S16x4x1024) ![0, h, 0] S16x1x1024.size inb)
/-- One head's columns of the output weights. -/
abbrev headCols (h : ℕ) (inb : ∀ a, (![0, h] : Fin 2 → ℕ) a + S1024x1024.size a ≤ S1024x4096.size a) (w : Vec F S1024x4096 .f32) : Vec F S1024x1024 .f32 :=
  View.ld (Val := Elt F) w (Rect.unit (s := S1024x4096) ![0, h] S1024x1024.size inb)

/-- The result from the gathered sums `g`, the output weights `w`, the normalization's weights `lw` and bias `lb`. -/
def normed (g : Vec F S16x4x1024 .f32) (w : Vec F S1024x4096 .f32) (lw lb : Vec F S1x1024 .f32) : Vec F S16x1024 .f32 :=
  k0_pay2
    (k0_pay3 (headRow 0 inb_S16x4x1024_S16x1x1024_0_0_0 g) (headCols 0 inb_S1024x4096_S1024x1024_0_0 w)
      (headRow 1 inb_S16x4x1024_S16x1x1024_0_1_0 g) (headCols 1024 inb_S1024x4096_S1024x1024_0_1024 w)
      (headRow 2 inb_S16x4x1024_S16x1x1024_0_2_0 g) (headCols 2048 inb_S1024x4096_S1024x1024_0_2048 w)
      (headRow 3 inb_S16x4x1024_S16x1x1024_0_3_0 g) (headCols 3072 inb_S1024x4096_S1024x1024_0_3072 w))
    (k0_pay5 (headRow 0 inb_S16x4x1024_S16x1x1024_0_0_0 g) (headCols 0 inb_S1024x4096_S1024x1024_0_0 w)
      (headRow 1 inb_S16x4x1024_S16x1x1024_0_1_0 g) (headCols 1024 inb_S1024x4096_S1024x1024_0_1024 w)
      (headRow 2 inb_S16x4x1024_S16x1x1024_0_2_0 g) (headCols 2048 inb_S1024x4096_S1024x1024_0_2048 w)
      (headRow 3 inb_S16x4x1024_S16x1x1024_0_3_0 g) (headCols 3072 inb_S1024x4096_S1024x1024_0_3072 w))
    (k0_pay6 (headRow 0 inb_S16x4x1024_S16x1x1024_0_0_0 g) (headCols 0 inb_S1024x4096_S1024x1024_0_0 w)
      (headRow 1 inb_S16x4x1024_S16x1x1024_0_1_0 g) (headCols 1024 inb_S1024x4096_S1024x1024_0_1024 w)
      (headRow 2 inb_S16x4x1024_S16x1x1024_0_2_0 g) (headCols 2048 inb_S1024x4096_S1024x1024_0_2048 w)
      (headRow 3 inb_S16x4x1024_S16x1x1024_0_3_0 g) (headCols 3072 inb_S1024x4096_S1024x1024_0_3072 w))
    lw lb

/-- The offsets of a whole access are zero. -/
theorem zero2 : (![0, 0] : Fin 2 → Nat) = fun _ => 0 := funext fun a => by fin_cases a <;> rfl

/-- A view stored whole by one store reads what was stored. -/
theorem read_stored {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩, View.canon_unit_zero h]

/-- The body's first condition: the point is the grid's first. -/
abbrev isFirst (i : grid0.Coords) : Prop :=
  (Scalar.cmpi .ne (Scalar.extui (Scalar.cmpi .eq (BitVec.ofNat 32 (i 0).val) 0#32)) 0#32 : BitVec 1) = 1#1

end Cert.KernelIdeal.Hand

end
-- ==== Proof.Body.lean ====
module

public import proofs.«01_k».proof.Proof.Setup

/-!
# The kernel's body, at one grid point

The body behaves in three ways: at the first grid point it fills its scratch rows and starts the transfer of the output
weights, at the last it waits for that transfer and writes the result, and in between it only pools two token blocks.
Each of the three is one triple here, over whatever the scratch memory holds before. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

/-- Between the first point and the last: two more pooled rows are gathered; nothing else changes. -/
theorem middle (c : Dev nD) (i : grid0.Coords)
    (arg1 : Memref sig .tc .vmem S2x2048x1024 .f32) (harg1 : arg1.IsWhole) (arg2 : Memref sig .tc .vmem S2x1x2048 .f32) (harg2 : arg2.IsWhole)
    (arg3 : Memref sig .tc .vmem S4x1024 .f32) (harg3 : arg3.IsWhole) (arg4 : Memref sig .tc .vmem S128x1024 .f32) (harg4 : arg4.IsWhole)
    (arg5 : Memref sig .tc .vmem S1x128 .f32) (harg5 : arg5.IsWhole) (arg6 : Memref sig .tc .vmem S128x1024 .f32) (harg6 : arg6.IsWhole)
    (arg7 : Memref sig .tc .vmem S1x128 .f32) (harg7 : arg7.IsWhole) (arg9 : Memref sig .tc .vmem S1x1024 .f32) (harg9 : arg9.IsWhole)
    (arg10 : Memref sig .tc .vmem S1x1024 .f32) (harg10 : arg10.IsWhole) (arg11 : Memref sig .tc .vmem S16x1024 .f32) (harg11 : arg11.IsWhole)
    (h1 : ¬ isFirst i) (h2 : ¬ k0_cond2 i = 1#1)
    (x : Vec F S2x2048x1024 .f32) (k : Vec F S2x1x2048 .f32)
    (g : Vec F S16x4x1024 .f32) (q : Vec F S4x1024 .f32) (b : Vec F S4x1 .f32)
    (W : Waits sig Unit) (K : PUnit → sProp 𝕄) :
    iprop((arg1.view.loc (c : Thread nD τ) ↦[arg1.view.set]{fullShare} harg1.unread x) ∗ (arg2.view.loc (c : Thread nD τ) ↦[arg2.view.set]{fullShare} harg2.unread k)
        ∗ held c scG g ∗ held c scQ q ∗ held c scC b ∗ owes (c : Thread nD τ) 0 W
        ∗ (iprop((arg1.view.loc (c : Thread nD τ) ↦[arg1.view.set]{fullShare} harg1.unread x) ∗ (arg2.view.loc (c : Thread nD τ) ↦[arg2.view.set]{fullShare} harg2.unread k)
          ∗ held c scG (grown i g q b x k) ∗ held c scQ q ∗ held c scC b ∗ owes (c : Thread nD τ) 0 W) -∗ K ⟨⟩))
      ⊢ wp frame (wpE (defs₀ (F := F)) Variants.none c none) Set.univ
          (cc0__attn_pool_kernel i arg1 harg1 arg2 harg2 arg3 harg3 arg4 harg4 arg5 harg5 arg6 harg6 arg7 harg7 hbW (Memref.isWhole_whole _)
            arg9 harg9 arg10 harg10 arg11 harg11 scG (Memref.isWhole_whole _) scQ (Memref.isWhole_whole _) scC (Memref.isWhole_whole _)
            scW (Memref.isWhole_whole _) cc0_scratch4) K := by
  rw [cc0__attn_pool_kernel_eq_skeleton]
  unfold cc0__attn_pool_kernel_skel
  rw [k0_part1_eq_skeleton, k0_part2_eq_skeleton, k0_part3_eq_skeleton]
  iintro ⟨H1, H2, Hg, Hq, Hb, HW, Hk⟩
  sl_exec
  sl_step
  iapply Hk
  isplitl [H1]; · iexact H1
  isplitl [H2]; · iexact H2
  isplitl [Hg]
  · rw [show grown i g q b x k = _ from ?_]
    · iexact Hg
    unfold grown
    sl_unfold_run_names
    simp only [View.readAt_eq_ld, View.read_whole, Memref.view_whole, harg1.read_unread, harg2.read_unread, View.ld_unit_zero (S := S4x1024) zero2, View.ld_unit_zero (S := S4x1) zero2]
  isplitl [Hq]; · iexact Hq
  isplitl [Hb]; · iexact Hb
  iexact HW

/-- The first point: the folded query and its bias are computed and stored, the transfer of the output weights is
started and left under way, and the first two pooled rows are gathered. -/
theorem first (c : Dev nD) (i : grid0.Coords)
    (arg1 : Memref sig .tc .vmem S2x2048x1024 .f32) (harg1 : arg1.IsWhole) (arg2 : Memref sig .tc .vmem S2x1x2048 .f32) (harg2 : arg2.IsWhole)
    (arg3 : Memref sig .tc .vmem S4x1024 .f32) (harg3 : arg3.IsWhole) (arg4 : Memref sig .tc .vmem S128x1024 .f32) (harg4 : arg4.IsWhole)
    (arg5 : Memref sig .tc .vmem S1x128 .f32) (harg5 : arg5.IsWhole) (arg6 : Memref sig .tc .vmem S128x1024 .f32) (harg6 : arg6.IsWhole)
    (arg7 : Memref sig .tc .vmem S1x128 .f32) (harg7 : arg7.IsWhole) (arg9 : Memref sig .tc .vmem S1x1024 .f32) (harg9 : arg9.IsWhole)
    (arg10 : Memref sig .tc .vmem S1x1024 .f32) (harg10 : arg10.IsWhole) (arg11 : Memref sig .tc .vmem S16x1024 .f32) (harg11 : arg11.IsWhole)
    (h1 : isFirst i) (h2 : ¬ k0_cond2 i = 1#1)
    (x : Vec F S2x2048x1024 .f32) (k : Vec F S2x1x2048 .f32) (qu : Vec F S4x1024 .f32) (wq : Vec F S128x1024 .f32) (bq : Vec F S1x128 .f32)
    (wk : Vec F S128x1024 .f32) (bk : Vec F S1x128 .f32)
    (g : Vec F S16x4x1024 .f32) (q : Vec F S4x1024 .f32) (b : Vec F S4x1 .f32) (w f : Vec F S1024x4096 .f32)
    (W : Waits sig Unit) (K : PUnit → sProp 𝕄) :
    iprop((arg1.view.loc (c : Thread nD τ) ↦[arg1.view.set]{fullShare} harg1.unread x) ∗ (arg2.view.loc (c : Thread nD τ) ↦[arg2.view.set]{fullShare} harg2.unread k)
         ∗ (arg3.view.loc (c : Thread nD τ) ↦[arg3.view.set]{fullShare} harg3.unread qu) ∗ (arg4.view.loc (c : Thread nD τ) ↦[arg4.view.set]{fullShare} harg4.unread wq)
         ∗ (arg5.view.loc (c : Thread nD τ) ↦[arg5.view.set]{fullShare} harg5.unread bq) ∗ (arg6.view.loc (c : Thread nD τ) ↦[arg6.view.set]{fullShare} harg6.unread wk)
         ∗ (arg7.view.loc (c : Thread nD τ) ↦[arg7.view.set]{fullShare} harg7.unread bk)
        ∗ held c scG g ∗ held c scQ q ∗ held c scC b ∗ held c scW f ∗ held c hbW w ∗ semVal ((c : Thread nD τ), SemLoc.dma 12) 0 ∗ owes (c : Thread nD τ) 0 W
        ∗ (iprop((arg1.view.loc (c : Thread nD τ) ↦[arg1.view.set]{fullShare} harg1.unread x) ∗ (arg2.view.loc (c : Thread nD τ) ↦[arg2.view.set]{fullShare} harg2.unread k)
         ∗ (arg3.view.loc (c : Thread nD τ) ↦[arg3.view.set]{fullShare} harg3.unread qu) ∗ (arg4.view.loc (c : Thread nD τ) ↦[arg4.view.set]{fullShare} harg4.unread wq)
         ∗ (arg5.view.loc (c : Thread nD τ) ↦[arg5.view.set]{fullShare} harg5.unread bq) ∗ (arg6.view.loc (c : Thread nD τ) ↦[arg6.view.set]{fullShare} harg6.unread wk)
         ∗ (arg7.view.loc (c : Thread nD τ) ↦[arg7.view.set]{fullShare} harg7.unread bk)
          ∗ held c scG (grown i g (k0_pay8 qu wq bq wk) (k0_pay9 qu wq bq bk) x k) ∗ held c scQ (k0_pay8 qu wq bq wk) ∗ held c scC (k0_pay9 qu wq bq bk)
          ∗ flying c w w ∗ owes (c : Thread nD τ) 0 W) -∗ K ⟨⟩))
      ⊢ wp frame (wpE (defs₀ (F := F)) Variants.none c none) Set.univ
          (cc0__attn_pool_kernel i arg1 harg1 arg2 harg2 arg3 harg3 arg4 harg4 arg5 harg5 arg6 harg6 arg7 harg7 hbW (Memref.isWhole_whole _)
            arg9 harg9 arg10 harg10 arg11 harg11 scG (Memref.isWhole_whole _) scQ (Memref.isWhole_whole _) scC (Memref.isWhole_whole _)
            scW (Memref.isWhole_whole _) cc0_scratch4) K := by
  rw [cc0__attn_pool_kernel_eq_skeleton]
  unfold cc0__attn_pool_kernel_skel
  rw [k0_part1_eq_skeleton, k0_part2_eq_skeleton, k0_part3_eq_skeleton]
  iintro ⟨H1, H2, H3, H4, H5, H6, H7, Hg, Hq, Hb, Hf, Hw, Hs, HW, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hg]
  · rw [show grown i g (k0_pay8 qu wq bq wk) (k0_pay9 qu wq bq bk) x k = _ from ?_]
    · iexact Hg
    unfold grown
    sl_unfold_run_names
    simp only [View.readAt_eq_ld, View.read_whole, Memref.view_whole, harg1.read_unread, harg2.read_unread, harg3.read_unread, harg4.read_unread, harg5.read_unread, harg6.read_unread,
      harg7.read_unread, View.ld_unit_zero (S := S4x1024) zero2, View.ld_unit_zero (S := S4x1) zero2, View.ld_unit_zero (S := S128x1024) zero2,
      View.ld_unit_zero (S := S1x128) zero2, View.readCov_unit_zero (S := S4x1024) _ zero2, View.readCov_unit_zero (S := S4x1) _ zero2]
  isplitl [Hq]
  · rw [show k0_pay8 qu wq bq wk = _ from ?_]
    · iexact Hq
    sl_unfold_run_names
    simp only [View.readAt_eq_ld, View.read_whole, Memref.view_whole, harg3.read_unread, harg4.read_unread, harg5.read_unread, harg6.read_unread, View.ld_unit_zero (S := S4x1024) zero2,
      View.ld_unit_zero (S := S128x1024) zero2, View.ld_unit_zero (S := S1x128) zero2]
    have e := read_stored (View.whole cc0_scratch1) q zero2 inb_S4x1024_S4x1024_0_0 (k0_pay8 qu wq bq wk)
    rw [View.read_whole] at e
    exact e.symm
  isplitl [Hb]
  · rw [show k0_pay9 qu wq bq bk = _ from ?_]
    · iexact Hb
    sl_unfold_run_names
    simp only [View.readAt_eq_ld, View.read_whole, Memref.view_whole, harg3.read_unread, harg4.read_unread, harg5.read_unread, harg7.read_unread, View.ld_unit_zero (S := S4x1024) zero2,
      View.ld_unit_zero (S := S128x1024) zero2, View.ld_unit_zero (S := S1x128) zero2]
    have e := read_stored (View.whole cc0_scratch2) b zero2 inb_S4x1_S4x1_0_0 (k0_pay9 qu wq bq bk)
    rw [View.read_whole] at e
    exact e.symm
  isplitl [Hs]
  · have e : View.write (Elt F) scW.view f (first.sl.dma0 w) Finset.univ = w := View.write_whole_univ _ _ _
    rw [e]
    iexact Hs
  iexact HW

/-- The last point: the last two pooled rows are gathered, the transfer is waited for, and the projected, normalised
rows are written to the result. -/
theorem last (c : Dev nD) (i : grid0.Coords)
    (arg1 : Memref sig .tc .vmem S2x2048x1024 .f32) (harg1 : arg1.IsWhole) (arg2 : Memref sig .tc .vmem S2x1x2048 .f32) (harg2 : arg2.IsWhole)
    (arg3 : Memref sig .tc .vmem S4x1024 .f32) (harg3 : arg3.IsWhole) (arg4 : Memref sig .tc .vmem S128x1024 .f32) (harg4 : arg4.IsWhole)
    (arg5 : Memref sig .tc .vmem S1x128 .f32) (harg5 : arg5.IsWhole) (arg6 : Memref sig .tc .vmem S128x1024 .f32) (harg6 : arg6.IsWhole)
    (arg7 : Memref sig .tc .vmem S1x128 .f32) (harg7 : arg7.IsWhole) (arg9 : Memref sig .tc .vmem S1x1024 .f32) (harg9 : arg9.IsWhole)
    (arg10 : Memref sig .tc .vmem S1x1024 .f32) (harg10 : arg10.IsWhole) (arg11 : Memref sig .tc .vmem S16x1024 .f32) (harg11 : arg11.IsWhole)
    (h1 : ¬ isFirst i) (h2 : k0_cond2 i = 1#1)
    (x : Vec F S2x2048x1024 .f32) (k : Vec F S2x1x2048 .f32) (lw lb : Vec F S1x1024 .f32) (o : Vec F S16x1024 .f32)
    (g : Vec F S16x4x1024 .f32) (q : Vec F S4x1024 .f32) (b : Vec F S4x1 .f32) (w : Vec F S1024x4096 .f32)
    (W : Waits sig Unit) (K : PUnit → sProp 𝕄) :
    iprop((arg1.view.loc (c : Thread nD τ) ↦[arg1.view.set]{fullShare} harg1.unread x) ∗ (arg2.view.loc (c : Thread nD τ) ↦[arg2.view.set]{fullShare} harg2.unread k) ∗ (arg9.view.loc (c : Thread nD τ) ↦[arg9.view.set]{fullShare} harg9.unread lw) ∗ (arg10.view.loc (c : Thread nD τ) ↦[arg10.view.set]{fullShare} harg10.unread lb) ∗ (arg11.view.loc (c : Thread nD τ) ↦[arg11.view.set]{fullShare} harg11.unread o)
        ∗ held c scG g ∗ held c scQ q ∗ held c scC b ∗ flying c w w ∗ owes (c : Thread nD τ) 0 W
        ∗ (iprop((arg1.view.loc (c : Thread nD τ) ↦[arg1.view.set]{fullShare} harg1.unread x) ∗ (arg2.view.loc (c : Thread nD τ) ↦[arg2.view.set]{fullShare} harg2.unread k) ∗ (arg9.view.loc (c : Thread nD τ) ↦[arg9.view.set]{fullShare} harg9.unread lw) ∗ (arg10.view.loc (c : Thread nD τ) ↦[arg10.view.set]{fullShare} harg10.unread lb) ∗ owns (c : Thread nD τ) arg11 fullShare (normed (grown i g q b x k) w lw lb)
          ∗ held c scG (grown i g q b x k) ∗ held c scQ q ∗ held c scC b ∗ held c scW w ∗ held c hbW w ∗ semVal ((c : Thread nD τ), SemLoc.dma 12) 0
          ∗ (∃ W', owes (c : Thread nD τ) 0 W')) -∗ K ⟨⟩))
      ⊢ wp frame (wpE (defs₀ (F := F)) Variants.none c none) Set.univ
          (cc0__attn_pool_kernel i arg1 harg1 arg2 harg2 arg3 harg3 arg4 harg4 arg5 harg5 arg6 harg6 arg7 harg7 hbW (Memref.isWhole_whole _)
            arg9 harg9 arg10 harg10 arg11 harg11 scG (Memref.isWhole_whole _) scQ (Memref.isWhole_whole _) scC (Memref.isWhole_whole _)
            scW (Memref.isWhole_whole _) cc0_scratch4) K := by
  rw [cc0__attn_pool_kernel_eq_skeleton]
  unfold cc0__attn_pool_kernel_skel
  rw [k0_part1_eq_skeleton, k0_part2_eq_skeleton, k0_part3_eq_skeleton]
  iintro ⟨H1, H2, H9, H10, H11, Hg, Hq, Hb, HF, HW, Hk⟩
  sl_exec
  sl_step
  iapply Hk
  isplitl [H1]; · iexact H1
  isplitl [H2]; · iexact H2
  isplitl [H9]; · iexact H9
  isplitl [H10]; · iexact H10
  isplitl [H11]
  · unfold owns; iexists _; isplitr
    swap; · iexact H11
    ipureintro
    sl_unfold_run_names
    refine (read_stored arg11.view _ zero2 inb_S16x1024_S16x1024_0_0 _).trans ?_
    unfold normed grown
    simp only [View.readAt_eq_ld, View.read_whole, Memref.view_whole, harg1.read_unread, harg2.read_unread, harg9.read_unread, harg10.read_unread,
      View.ld_unit_zero (S := S4x1024) zero2, View.ld_unit_zero (S := S4x1) zero2, View.ld_unit_zero (S := S1x1024) zero2]
  isplitl [Hg]
  · rw [show grown i g q b x k = _ from ?_]
    · iexact Hg
    unfold grown
    sl_unfold_run_names
    simp only [View.readAt_eq_ld, View.read_whole, Memref.view_whole, harg1.read_unread, harg2.read_unread, View.ld_unit_zero (S := S4x1024) zero2, View.ld_unit_zero (S := S4x1) zero2]
  isplitl [Hq]; · iexact Hq
  isplitl [Hb]; · iexact Hb
  isplitl [HF_dst]; · iexact HF_dst
  isplitl [HF_src]
  · simp only [Memref.view_whole, View.set_whole]; iexact HF_src
  isplitl [HF]; · iexact HF
  iexists _; iexact HW

end Cert.KernelIdeal.Hand

end
-- ==== Proof.Gathered.lean ====
/-
  The gathered sums: what the scratch array holds, row by row, as the grid's points go by. The point `t` writes the rows
  `2 t` and `2 t + 1` and leaves the others.
-/
module

public import proofs.«01_k».proof.Proof.Setup
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

variable (m : (ℓ : Loc nD τ sig) → Buf (Elt F) ℓ)

/-- The folded queries, from the blocks of the query, its projection and the keys' projection. -/
def Qv (c : Dev nD) : Vec F S4x1024 .f32 := k0_pay8 (iblk m c 2 t0_0) (iblk m c 3 t0_0) (iblk m c 4 t0_0) (iblk m c 5 t0_0)

/-- The folded bias, one number a head. -/
def Cv (c : Dev nD) : Vec F S4x1 .f32 := k0_pay9 (iblk m c 2 t0_0) (iblk m c 3 t0_0) (iblk m c 4 t0_0) (iblk m c 6 t0_0)

/-- The two rows a point writes, from the folded query and bias and the point's blocks. -/
def row0 (q : Vec F S4x1024 .f32) (b : Vec F S4x1 .f32) (x : Vec F S2x2048x1024 .f32) (k : Vec F S2x1x2048 .f32) : Vec F S1x4x1024 .f32 :=
  k0_pay11 (k0_pay10 b (tok0 x) q (msk0 k))
/-- The pooled row of a point's second token block. -/
def row1 (q : Vec F S4x1024 .f32) (b : Vec F S4x1 .f32) (x : Vec F S2x2048x1024 .f32) (k : Vec F S2x1x2048 .f32) : Vec F S1x4x1024 .f32 :=
  k0_pay1 (k0_pay12 b (tok1 x) q (msk1 k))

/-- The point that writes a row. -/
def ptOf (r : Fin 16) : Fin cfg0.N := ⟨r.val / 2, by have := r.isLt; show _ < grid0.N; rw [N_0]; omega⟩

/-- The sums once every point has written its rows. -/
def G (c : Dev nD) : Vec F S16x4x1024 .f32 := fun idx =>
  if (idx 0).val % 2 = 1 then row1 (Qv m c) (Cv m c) (iblk m c 0 (ptOf (idx 0))) (iblk m c 1 (ptOf (idx 0))) (ValueIdx.ix3 0 (idx 1) (idx 2))
  else row0 (Qv m c) (Cv m c) (iblk m c 0 (ptOf (idx 0))) (iblk m c 1 (ptOf (idx 0))) (ValueIdx.ix3 0 (idx 1) (idx 2))

/-- A point's only coordinate is its number. -/
theorem coords_zero (t : Fin cfg0.N) : (grid0.coords t 0).val = t.val := by
  rcases fin_N0 t with h | h | h | h | h | h | h | h <;> subst h <;> decide

/-- A row written last, read at one of its places. -/
theorem row_hit (g : Vec F S16x4x1024 .f32) (n : ℕ) (inb : ∀ a, (![n, 0, 0] : Fin 3 → ℕ) a + S1x4x1024.size a ≤ S16x4x1024.size a)
    (w : Vec F S1x4x1024 .f32) (L : List (View.Piece (Elt F) S16x4x1024 .f32)) (idx : S16x4x1024.Idx) (h : (idx 0).val = n) :
    scG.view.read (Elt F) (scG.view.writes (Elt F) g (⟨Rect.unit (s := S16x4x1024) ![n, 0, 0] S1x4x1024.size inb, w⟩ :: L)) idx
      = w (ValueIdx.ix3 0 (idx 1) (idx 2)) := by
  refine View.read_writes_cons_hit_of_coords scG.view g (Rect.unit (s := S16x4x1024) ![n, 0, 0] S1x4x1024.size inb) w L
    (ValueIdx.ix3 0 (idx 1) (idx 2)) idx fun a => ?_
  match a with
  | ⟨0, _⟩ => exact h.trans (by show n = n + 1 * 0; omega)
  | ⟨1, _⟩ => exact (by show (idx 1).val = 0 + 1 * (idx 1).val; omega)
  | ⟨2, _⟩ => exact (by show (idx 2).val = 0 + 1 * (idx 2).val; omega)

/-- A row written last, read elsewhere. -/
theorem row_miss (g : Vec F S16x4x1024 .f32) (n : ℕ) (inb : ∀ a, (![n, 0, 0] : Fin 3 → ℕ) a + S1x4x1024.size a ≤ S16x4x1024.size a)
    (w : Vec F S1x4x1024 .f32) (L : List (View.Piece (Elt F) S16x4x1024 .f32)) (idx : S16x4x1024.Idx) (h : (idx 0).val ≠ n) :
    scG.view.read (Elt F) (scG.view.writes (Elt F) g (⟨Rect.unit (s := S16x4x1024) ![n, 0, 0] S1x4x1024.size inb, w⟩ :: L)) idx
      = scG.view.read (Elt F) (scG.view.writes (Elt F) g L) idx :=
  View.read_writes_cons_miss_of_axis scG.view g ⟨Rect.unit (s := S16x4x1024) ![n, 0, 0] S1x4x1024.size inb, w⟩ L idx 0 n 1 rfl rfl rfl
    (by rcases Nat.lt_or_gt_of_ne h with h | h; exacts [.inl h, .inr h])

/-- Two rows written one after the other over `g`: what each row of the array then holds. -/
theorem two_rows (g : Vec F S16x4x1024 .f32) (o0 o1 : Fin 3 → ℕ) (inb0 : ∀ a, o0 a + S1x4x1024.size a ≤ S16x4x1024.size a)
    (inb1 : ∀ a, o1 a + S1x4x1024.size a ≤ S16x4x1024.size a) (w0 w1 : Vec F S1x4x1024 .f32) (n : ℕ)
    (h0 : o0 = ![n, 0, 0]) (h1 : o1 = ![n + 1, 0, 0]) (idx : S16x4x1024.Idx) :
    scG.view.read (Elt F) (scG.view.writes (Elt F) g [⟨Rect.unit (s := S16x4x1024) o1 S1x4x1024.size inb1, w1⟩,
        ⟨Rect.unit (s := S16x4x1024) o0 S1x4x1024.size inb0, w0⟩]) idx
      = if (idx 0).val = n + 1 then w1 (ValueIdx.ix3 0 (idx 1) (idx 2))
        else if (idx 0).val = n then w0 (ValueIdx.ix3 0 (idx 1) (idx 2)) else g idx := by
  subst h0 h1
  by_cases h : (idx 0).val = n + 1
  · exact (row_hit g (n + 1) inb1 w1 _ idx h).trans (if_pos h).symm
  refine (row_miss g (n + 1) inb1 w1 _ idx h).trans (Eq.trans ?_ (if_neg h).symm)
  by_cases h' : (idx 0).val = n
  · exact (row_hit g n inb0 w0 [] idx h').trans (if_pos h').symm
  exact (row_miss g n inb0 w0 [] idx h').trans (if_neg h').symm

/-- The sums after a point, read at an index: its second row, its first row, and every other row as it was. -/
theorem grown_apply (i : grid0.Coords) (g : Vec F S16x4x1024 .f32) (q b) (x : Vec F S2x2048x1024 .f32) (k) (idx : S16x4x1024.Idx) :
    grown i g q b x k idx = if (idx 0).val = 2 * (i 0).val + 1 then row1 q b x k (ValueIdx.ix3 0 (idx 1) (idx 2))
      else if (idx 0).val = 2 * (i 0).val then row0 q b x k (ValueIdx.ix3 0 (idx 1) (idx 2)) else g idx := by
  have e0 : k0_off1 i 0#32 = ![2 * (i 0).val, 0, 0] := k0_off1_eq i 0
  have e1 : k0_off1 i 1#32 = ![2 * (i 0).val + 1, 0, 0] := k0_off1_eq i 1
  refine (congrFun (View.read_whole cc0_scratch0 (grown i g q b x k)).symm idx).trans ?_
  unfold grown
  exact two_rows g (k0_off1 i 0#32) (k0_off1 i 1#32) (k0_off1_inb i 0) (k0_off1_inb i 1) (row0 q b x k) (row1 q b x k) (2 * (i 0).val) e0 e1 idx

/-- Sums that agree with `G` below the point's rows agree with it below the next point's once the point has run. -/
theorem grown_agrees (c : Dev nD) (t : Fin cfg0.N) (g : Vec F S16x4x1024 .f32)
    (h : ∀ idx : S16x4x1024.Idx, (idx 0).val < 2 * t.val → g idx = G m c idx) (idx : S16x4x1024.Idx) (hi : (idx 0).val < 2 * (t.val + 1)) :
    grown (grid0.coords t) g (Qv m c) (Cv m c) (iblk m c 0 t) (iblk m c 1 t) idx = G m c idx := by
  have hc := coords_zero t
  rw [grown_apply, hc]
  by_cases h0 : (idx 0).val < 2 * t.val
  · rw [if_neg (by omega), if_neg (by omega), h idx h0]
  have hp : ptOf (idx 0) = t := Fin.ext (show (idx 0).val / 2 = t.val by omega)
  unfold G
  by_cases h1 : (idx 0).val % 2 = 1
  · rw [if_pos (by omega), if_pos h1, hp]
  · rw [if_neg (by omega), if_pos (by omega), if_neg h1, hp]

/-- After the last point they are `G` itself. -/
theorem grown_last (c : Dev nD) (g : Vec F S16x4x1024 .f32) (t : Fin cfg0.N) (ht : t.val = 7)
    (h : ∀ idx : S16x4x1024.Idx, (idx 0).val < 2 * t.val → g idx = G m c idx) :
    grown (grid0.coords t) g (Qv m c) (Cv m c) (iblk m c 0 t) (iblk m c 1 t) = G m c :=
  funext fun idx => grown_agrees m c t g h idx (by have : (idx 0).val < 16 := (idx 0).isLt; omega)

/-- The first branch is taken at point 0 alone. -/
theorem isFirst_iff (t : Fin cfg0.N) : isFirst (grid0.coords t) ↔ t.val = 0 := by
  rcases fin_N0 t with h | h | h | h | h | h | h | h <;> subst h <;> decide

/-- The last branch is taken at point 7 alone. -/
theorem isLast_iff (t : Fin cfg0.N) : k0_cond2 (grid0.coords t) = 1#1 ↔ t.val = 7 := by
  rcases fin_N0 t with h | h | h | h | h | h | h | h <;> subst h <;> decide

end Cert.KernelIdeal.Hand

end
-- ==== Proof.Run.lean ====
/-
  The run of the kernel: the invariant its grid keeps, the three cases of its body, what it leaves in memory.
-/
module

public import proofs.«01_k».proof.Proof.Body
public import proofs.«01_k».proof.Proof.Gathered

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The cell and the array of the kernel's own transfer -/

/-- The kernel's own semaphore. -/
abbrev osem0 : Fin 1 → SemLoc sig := fun j => (![SemLoc.dma 12] : Fin 1 → SemLoc sig) j

/-- The kernel's one semaphore of its own is none of the pipeline's. -/
theorem ownSemFacts0 : Pipeline.OwnSemFacts spec0 osem0 := by decide

/-- The kernel's own semaphores, at zero: the one of the transfer. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 12) 0 := by
  rw [Pipeline.ownSems0_eq_of_list c osem0 [0] (by decide) (by decide)]; rfl

/-- The array the transfer reads: the output weights. -/
def H0 : Finset (Ref sig .tc) := {main_arg7}

/-- The array of the output weights is none of the pipeline's. -/
theorem H0_sub : H0 ⊆ Pipeline.restRefs sig spec0 := by decide

/-- The arrays that the kernel transfers itself: the output weights. -/
theorem hbmPts0_eq (c : Dev nD) :
    (bigSep H0 fun b => ((c : Thread nD τ).loc b) ↦{fullShare} V m c b : sProp 𝕄) = held c hbW (V m c main_arg7) := by
  rw [BI.bigSep_eq_bigSepL_of_eq [main_arg7] (by decide) (by decide)]; rfl

/-! ## The invariant and the proof data -/

/-- Between the first point and the last: the rows written so far, the folded query and bias, the transfer on its way. -/
def midway (c : Dev nD) (p : ℕ) : sProp 𝕄 :=
  iprop(∃ g : Vec F S16x4x1024 .f32, ⌜∀ idx : S16x4x1024.Idx, (idx 0).val < 2 * p → g idx = G m c idx⌝
    ∗ held c scG g ∗ held c scQ (Qv m c) ∗ held c scC (Cv m c) ∗ flying c (V m c main_arg7) (V m c main_arg7) ∗ (∃ r, prngReg c r))

/-- Before the first point and after the last: the kernel's buffers at whatever they hold, its cell at zero, its array whole. -/
def settled (c : Dev nD) : sProp 𝕄 := Pipeline.ΦD osem0 spec0 H0 (V m) c

/-- What is held outside the run of the points, part by part. -/
theorem settled_eq (c : Dev nD) : settled m c
    = iprop(((∃ f : Buf (Elt F) ((c : Thread nD τ).loc cc0_scratch0), held c scG f) ∗ (∃ f : Buf (Elt F) ((c : Thread nD τ).loc cc0_scratch1), held c scQ f)
        ∗ (∃ f : Buf (Elt F) ((c : Thread nD τ).loc cc0_scratch2), held c scC f) ∗ (∃ f : Buf (Elt F) ((c : Thread nD τ).loc cc0_scratch3), held c scW f))
      ∗ (∃ r, prngReg c r) ∗ semVal ((c : Thread nD τ), SemLoc.dma 12) 0 ∗ held c hbW (V m c main_arg7)) := by
  unfold settled
  rw [Pipeline.ΦD_eq, scopedRest0_eq, ownSems00_eq, hbmPts0_eq]

/-- What is held before point `p`: everything settled before the first and after the last, the gathered rows and the transfer
under way in between. -/
def invariant (c : Dev nD) (p : ℕ) : sProp 𝕄 := if p = 0 ∨ p = 8 then settled m c else midway m c p

/-- Before the first point and after the last. -/
theorem invariant_ends (c : Dev nD) (p : ℕ) (h : p = 0 ∨ p = 8) : invariant m c p = settled m c := if_pos h
/-- Between two points. -/
theorem invariant_mid (c : Dev nD) (p : ℕ) (h : ¬ (p = 0 ∨ p = 8)) : invariant m c p = midway m c p := if_neg h

/-- What the kernel leaves in the result's block. -/
def result (c : Dev nD) (t : Fin cfg0.N) : Vec F S16x1024 .f32 := normed (G m c) (V m c main_arg7) (iblk m c 7 t) (iblk m c 8 t)

/-- The proof data of the pipeline on core `c`: the arrays as the region finds them, each input's block left as it is, the result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c t
  Φ p := invariant m c p.val
  q _ := fullShare
  owed _ := 0

/-- The arrays hold their contents at the launch. -/
theorem A_eq (c : Dev nD) (w : Fin cfg0.W) : (dats m 0 c).A w = V m c (Pipeline.arrRef spec0 w) := by
  dsimp only [dats]

/-! Each input window's buffer holds its block at every point. -/

/-- Each window but the result's holds the block that its point reads; so for all nine. -/
theorem before0_0 (c : Dev nD) (t : Fin cfg0.N) (d) : (dats m 0 c).before 0 t d = iblk m c 0 t :=
  (dats m 0 c).before_in_eq_fetched 0 rfl (fun _ => rfl) (fun _ _ _ => rfl) (fun t => rfl) t d
theorem before0_1 (c : Dev nD) (t : Fin cfg0.N) (d) : (dats m 0 c).before 1 t d = iblk m c 1 t :=
  (dats m 0 c).before_in_eq_fetched 1 rfl (fun _ => rfl) (fun _ _ _ => rfl) (fun t => rfl) t d
theorem before0_2 (c : Dev nD) (t : Fin cfg0.N) (d) : (dats m 0 c).before 2 t d = iblk m c 2 t :=
  (dats m 0 c).before_in_eq_fetched 2 rfl (fun _ => rfl) (fun _ _ _ => rfl) (fun t => rfl) t d
theorem before0_3 (c : Dev nD) (t : Fin cfg0.N) (d) : (dats m 0 c).before 3 t d = iblk m c 3 t :=
  (dats m 0 c).before_in_eq_fetched 3 rfl (fun _ => rfl) (fun _ _ _ => rfl) (fun t => rfl) t d
theorem before0_4 (c : Dev nD) (t : Fin cfg0.N) (d) : (dats m 0 c).before 4 t d = iblk m c 4 t :=
  (dats m 0 c).before_in_eq_fetched 4 rfl (fun _ => rfl) (fun _ _ _ => rfl) (fun t => rfl) t d
theorem before0_5 (c : Dev nD) (t : Fin cfg0.N) (d) : (dats m 0 c).before 5 t d = iblk m c 5 t :=
  (dats m 0 c).before_in_eq_fetched 5 rfl (fun _ => rfl) (fun _ _ _ => rfl) (fun t => rfl) t d
theorem before0_6 (c : Dev nD) (t : Fin cfg0.N) (d) : (dats m 0 c).before 6 t d = iblk m c 6 t :=
  (dats m 0 c).before_in_eq_fetched 6 rfl (fun _ => rfl) (fun _ _ _ => rfl) (fun t => rfl) t d
theorem before0_7 (c : Dev nD) (t : Fin cfg0.N) (d) : (dats m 0 c).before 7 t d = iblk m c 7 t :=
  (dats m 0 c).before_in_eq_fetched 7 rfl (fun _ => rfl) (fun _ _ _ => rfl) (fun t => rfl) t d
theorem before0_8 (c : Dev nD) (t : Fin cfg0.N) (d) : (dats m 0 c).before 8 t d = iblk m c 8 t :=
  (dats m 0 c).before_in_eq_fetched 8 rfl (fun _ => rfl) (fun _ _ _ => rfl) (fun t => rfl) t d

/-- What a whole buffer is held at, opened and closed. -/
theorem owns_open (c : Dev nD) {sp : Space} {S : Shape} {e : EltTy} (M : Memref sig .tc sp S e) (h : M.IsWhole) (X : S.Idx → Elt F e) :
    (owns (c : Thread nD τ) M fullShare X : sProp 𝕄) ⊢ M.view.loc (c : Thread nD τ) ↦[M.view.set]{fullShare} h.unread X := by
  unfold owns
  iintro ⟨%f, %hf, H⟩
  obtain rfl := h.eq_unread hf
  iexact H

/-- A whole buffer with given contents is owned at those contents. -/
theorem owns_close (c : Dev nD) {sp : Space} {S : Shape} {e : EltTy} (M : Memref sig .tc sp S e) (h : M.IsWhole) (X : S.Idx → Elt F e) :
    (M.view.loc (c : Thread nD τ) ↦[M.view.set]{fullShare} h.unread X : sProp 𝕄) ⊢ owns (c : Thread nD τ) M fullShare X := by
  unfold owns
  iintro H
  iexists h.unread X
  isplitr
  · ipureintro; exact h.read_unread X
  iexact H

/-- What the body is called with at point `t`, and what it leaves. -/
def bodyPre (c : Dev nD) (t : Fin cfg0.N) : sProp 𝕄 :=
  iprop(invariant m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- What a point's body owes: the invariant of the next point, the windows, and no wait left over. -/
def bodyPost (c : Dev nD) (t : Fin cfg0.N) : sProp 𝕄 :=
  iprop(invariant m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (dats m 0 c).leavesExact 9 t)

/-- The result's buffer after a point that does not write it, and after the last. -/
theorem leaves_other (c : Dev nD) (t : Fin cfg0.N) (h : ¬ t.val = 7) : (dats m 0 c).leavesExact 9 t
    = iprop(∃ d, owns (c : Thread nD τ) (st0_9 t) fullShare ((dats m 0 c).before 9 t d)) := by
  have hc : ¬ k0_cond2 (grid0.coords t) = 1#1 := fun e => h ((isLast_iff t).mp e)
  refine (dats m 0 c).leavesExact_idle 9 t ?_ ?_
  · show (!(k0_cond2 (grid0.coords t) == 1#1)) = true
    simp [hc]
  · have := flush0_9 t
    have hN : t.val < 8 := by have := t.isLt; have hN : cfg0.N = 8 := N_0; omega
    cases hf : (cfg0.win 9).flush t
    · rfl
    · exact absurd (this.mp hf) (by omega)

/-- The result's window leaves the last point with the normalised rows. -/
theorem leaves_last (c : Dev nD) (t : Fin cfg0.N) (h : t.val = 7) : (dats m 0 c).leavesExact 9 t
    = owns (c : Thread nD τ) (st0_9 t) fullShare (result m c t) := by
  have hi : cfg0.idle 9 (cfg0.grid.coords t) = false := by
    show (!(k0_cond2 (grid0.coords t) == 1#1)) = false
    simp [(isLast_iff t).mpr h]
  unfold Dat.leavesExact
  rw [hi]
  rfl

/-- A middle point keeps the invariant. -/
theorem body_middle (c : Dev nD) (t : Fin cfg0.N) (h0 : ¬ t.val = 0) (h7 : ¬ t.val = 7) :
    bodyPre m c t ⊢ wp frame (wpE (defs₀ (F := F)) Variants.none c none) Set.univ (bodyAt0 t) (fun _ => bodyPost m c t) := by
  have hN : t.val < 8 := by have := t.isLt; have hN : cfg0.N = 8 := N_0; omega
  unfold bodyPre bodyPost
  rw [leaves_other m c t h7, invariant_mid m c _ (by omega), invariant_mid m c _ (by omega)]
  simp only [before0_0, before0_1, before0_2, before0_3, before0_4, before0_5, before0_6, before0_7, before0_8]
  unfold midway Dat.owesAt Pipeline.owesWithin
  rw [show (dats m 0 c).owed t.castSucc = 0 from rfl, show (dats m 0 c).owed t.succ = 0 from rfl]
  iintro ⟨⟨%g, %hg, Hg, Hq, Hb, HF, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (middle c (grid0.coords t) (st0_0 t) (hstage0_0 ((cfg0.slots t 0).cast nbuf0_0)) (st0_1 t) (hstage0_1 ((cfg0.slots t 1).cast nbuf0_1))
    _ _ _ _ _ _ _ _ _ _ _ _ _ _ _ _ (fun e => h0 ((isFirst_iff t).mp e)) (fun e => h7 ((isLast_iff t).mp e))
    (iblk m c 0 t) (iblk m c 1 t) g (Qv m c) (Cv m c) W _)
  isplitl [H0]; · iapply (owns_open c _ _ _); iexact H0
  isplitl [H1]; · iapply (owns_open c _ _ _); iexact H1
  isplitl [Hg]; · iexact Hg
  isplitl [Hq]; · iexact Hq
  isplitl [Hb]; · iexact Hb
  isplitl [HW]; · iexact HW
  iintro ⟨H0, H1, Hg, Hq, Hb, HW⟩
  isplitl [Hg Hq Hb HF Hr]
  · iexists (grown (grid0.coords t) g (Qv m c) (Cv m c) (iblk m c 0 t) (iblk m c 1 t))
    isplitr
    · ipureintro; exact grown_agrees m c t g hg
    isplitl [Hg]; · iexact Hg
    isplitl [Hq]; · iexact Hq
    isplitl [Hb]; · iexact Hb
    isplitl [HF]; · iexact HF
    iexact Hr
  isplitl [HW]
  · iexists W; isplitr; · ipureintro; exact fun _ _ => Or.inl trivial
    iexact HW
  isplitl [H0]; · iapply (owns_close c _ (hstage0_0 ((cfg0.slots t 0).cast nbuf0_0)) _); iexact H0
  isplitl [H1]; · iapply (owns_close c _ (hstage0_1 ((cfg0.slots t 1).cast nbuf0_1)) _); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The first point sets the invariant up. -/
theorem body_first (c : Dev nD) (t : Fin cfg0.N) (h0 : t.val = 0) :
    bodyPre m c t ⊢ wp frame (wpE (defs₀ (F := F)) Variants.none c none) Set.univ (bodyAt0 t) (fun _ => bodyPost m c t) := by
  obtain rfl : t = t0_0 := Fin.ext h0
  unfold bodyPre bodyPost
  rw [leaves_other m c t0_0 (by decide), invariant_ends m c _ (.inl h0), invariant_mid m c _ (by decide), settled_eq]
  simp only [before0_0, before0_1, before0_2, before0_3, before0_4, before0_5, before0_6, before0_7, before0_8]
  unfold midway Dat.owesAt Pipeline.owesWithin
  rw [show (dats m 0 c).owed t0_0.castSucc = 0 from rfl, show (dats m 0 c).owed t0_0.succ = 0 from rfl]
  iintro ⟨⟨⟨⟨%g, Hg⟩, ⟨%q, Hq⟩, ⟨%b, Hb⟩, ⟨%f, Hf⟩⟩, Hr, Hs, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (first c (grid0.coords t0_0) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9))
    ((isFirst_iff t0_0).mpr h0) (fun e => absurd ((isLast_iff t0_0).mp e) (by decide))
    (iblk m c 0 t0_0) (iblk m c 1 t0_0) (iblk m c 2 t0_0) (iblk m c 3 t0_0) (iblk m c 4 t0_0) (iblk m c 5 t0_0) (iblk m c 6 t0_0)
    g q b (V m c main_arg7) f W _)
  isplitl [H0]; · iapply (owns_open c _ _ _); iexact H0
  isplitl [H1]; · iapply (owns_open c _ _ _); iexact H1
  isplitl [H2]; · iapply (owns_open c _ _ _); iexact H2
  isplitl [H3]; · iapply (owns_open c _ _ _); iexact H3
  isplitl [H4]; · iapply (owns_open c _ _ _); iexact H4
  isplitl [H5]; · iapply (owns_open c _ _ _); iexact H5
  isplitl [H6]; · iapply (owns_open c _ _ _); iexact H6
  isplitl [Hg]; · iexact Hg
  isplitl [Hq]; · iexact Hq
  isplitl [Hb]; · iexact Hb
  isplitl [Hf]; · iexact Hf
  isplitl [Hw]; · iexact Hw
  isplitl [Hs]; · iexact Hs
  isplitl [HW]; · iexact HW
  iintro ⟨H0, H1, H2, H3, H4, H5, H6, Hg, Hq, Hb, HF, HW⟩
  isplitl [Hg Hq Hb HF Hr]
  · iexists (grown (grid0.coords t0_0) g (Qv m c) (Cv m c) (iblk m c 0 t0_0) (iblk m c 1 t0_0))
    isplitr
    · ipureintro; exact grown_agrees m c t0_0 g fun idx hi => absurd hi (by rw [h0]; omega)
    isplitl [Hg]; · iexact Hg
    isplitl [Hq]; · iexact Hq
    isplitl [Hb]; · iexact Hb
    isplitl [HF]; · iexact HF
    iexact Hr
  isplitl [HW]
  · iexists W; isplitr; · ipureintro; exact fun _ _ => Or.inl trivial
    iexact HW
  isplitl [H0]; · iapply (owns_close c _ (hstage0_0 ((cfg0.slots t0_0 0).cast nbuf0_0)) _); iexact H0
  isplitl [H1]; · iapply (owns_close c _ (hstage0_1 ((cfg0.slots t0_0 1).cast nbuf0_1)) _); iexact H1
  isplitl [H2]; · iapply (owns_close c _ (hstage0_2 ((cfg0.slots t0_0 2).cast nbuf0_2)) _); iexact H2
  isplitl [H3]; · iapply (owns_close c _ (hstage0_3 ((cfg0.slots t0_0 3).cast nbuf0_3)) _); iexact H3
  isplitl [H4]; · iapply (owns_close c _ (hstage0_4 ((cfg0.slots t0_0 4).cast nbuf0_4)) _); iexact H4
  isplitl [H5]; · iapply (owns_close c _ (hstage0_5 ((cfg0.slots t0_0 5).cast nbuf0_5)) _); iexact H5
  isplitl [H6]; · iapply (owns_close c _ (hstage0_6 ((cfg0.slots t0_0 6).cast nbuf0_6)) _); iexact H6
  isplitl [H7]; · iexact H7
  isplitl [H8]; · iexact H8
  iexact H9

/-- The last point writes the result and settles. -/
theorem body_last (c : Dev nD) (t : Fin cfg0.N) (h7 : t.val = 7) :
    bodyPre m c t ⊢ wp frame (wpE (defs₀ (F := F)) Variants.none c none) Set.univ (bodyAt0 t) (fun _ => bodyPost m c t) := by
  unfold bodyPre bodyPost
  rw [leaves_last m c t h7, invariant_mid m c _ (by omega), invariant_ends m c _ (.inr (by omega)), settled_eq]
  simp only [before0_0, before0_1, before0_2, before0_3, before0_4, before0_5, before0_6, before0_7, before0_8]
  unfold midway Dat.owesAt Pipeline.owesWithin
  rw [show (dats m 0 c).owed t.castSucc = 0 from rfl, show (dats m 0 c).owed t.succ = 0 from rfl]
  iintro ⟨⟨%g, %hg, Hg, Hq, Hb, HF, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hG := grown_last m c g t h7 hg
  have run := last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
    (fun e => absurd ((isFirst_iff t).mp e) (by omega)) ((isLast_iff t).mpr h7)
    (iblk m c 0 t) (iblk m c 1 t) (iblk m c 7 t) (iblk m c 8 t) ((dats m 0 c).before 9 t d9) g (Qv m c) (Cv m c) (V m c main_arg7) W
  rw [hG] at run
  iapply (run _)
  isplitl [H0]; · iapply (owns_open c _ _ _); iexact H0
  isplitl [H1]; · iapply (owns_open c _ _ _); iexact H1
  isplitl [H7]; · iapply (owns_open c _ _ _); iexact H7
  isplitl [H8]; · iapply (owns_open c _ _ _); iexact H8
  isplitl [H9]; · iapply (owns_open c _ _ _); iexact H9
  isplitl [Hg]; · iexact Hg
  isplitl [Hq]; · iexact Hq
  isplitl [Hb]; · iexact Hb
  isplitl [HF]; · iexact HF
  isplitl [HW]; · iexact HW
  iintro ⟨H0, H1, H7, H8, H9, Hg, Hq, Hb, Hf, Hw, Hs, ⟨%W', HW'⟩⟩
  isplitl [Hg Hq Hb Hf Hw Hs Hr]
  · isplitl [Hg Hq Hb Hf]
    · isplitl [Hg]; · iexists _; iexact Hg
      isplitl [Hq]; · iexists _; iexact Hq
      isplitl [Hb]; · iexists _; iexact Hb
      iexists _; iexact Hf
    isplitl [Hr]; · iexact Hr
    isplitl [Hs]; · iexact Hs
    iexact Hw
  isplitl [HW']
  · iexists W'; isplitr; · ipureintro; exact fun _ _ => Or.inl trivial
    iexact HW'
  isplitl [H0]; · iapply (owns_close c _ (hstage0_0 ((cfg0.slots t 0).cast nbuf0_0)) _); iexact H0
  isplitl [H1]; · iapply (owns_close c _ (hstage0_1 ((cfg0.slots t 1).cast nbuf0_1)) _); iexact H1
  isplitl [H2]; · iexact H2
  isplitl [H3]; · iexact H3
  isplitl [H4]; · iexact H4
  isplitl [H5]; · iexact H5
  isplitl [H6]; · iexact H6
  isplitl [H7]; · iapply (owns_close c _ (hstage0_7 ((cfg0.slots t 7).cast nbuf0_7)) _); iexact H7
  isplitl [H8]; · iapply (owns_close c _ (hstage0_8 ((cfg0.slots t 8).cast nbuf0_8)) _); iexact H8
  iexact H9

/-- Every point is one of the three. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h7 : t.val = 7
  · exact body_last m c t h7
  exact body_middle m c t h0 h7

/-- What the launch runs at a point is the kernel's body there. -/
theorem defs₀_row (t : Fin cfg0.N) :
    defs₀ (F := F) .tc cfg0.body (cfg0.bodyArgs t (cfg0.slots t)) = bodyAt0 t := by
  unfold defs₀; rw [Defs.onTc_tc]

/-- The body does what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with each window's array at what the grid wrote, every other buffer as the region found it, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => (Entails.of_eq (invariant_ends m c 0 (.inl rfl)).symm : settled m c ⊢ invariant m c 0))
    (hout := fun c => (Entails.of_eq (invariant_ends m c 8 (.inr rfl)) : invariant m c 8 ⊢ settled m c))

/-- The frame with the result: the arguments unchanged, the cells at zero, the result's array at what the last point wrote. -/
theorem run_result : θ_run defs (onTc (τ := τ) (main (F := F))) ⟨m, fun _ => 0, ρ⟩ (fun r => (∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have win : ∀ r : PUnit × MemSt nD τ sig (Elt F), Pipeline.FramePost cfgs (dats m) 0 (V m) r → ∀ (c : Dev nD) (w : Fin cfg0.W), (cfg0.win w).isOut = false →
      r.2.mem ((spec0 w).arr.view.loc (c : Thread nD τ)) = V m c (Pipeline.arrRef spec0 w) :=
    fun r h c w hw => ((h c).1 w).trans (((dats m 0 c).arrAt_in w hw _).trans (A_eq m c w))
  have rest : ∀ r : PUnit × MemSt nD τ sig (Elt F), Pipeline.FramePost cfgs (dats m) 0 (V m) r → ∀ (c : Dev nD) (b : Ref sig .tc), b ∈ Pipeline.restRefs sig spec0 →
      r.2.mem ((c.tc : Thread nD τ).loc b) = V m c b :=
    fun r h c b hb => (h c).2 b hb
  refine (θ_run defs _ _).mono (fun r h => ⟨fun c => ⟨(h.1 c).1 9, ?_, ?_, ?_, ?_, ?_, ?_, ?_, ?_, ?_, ?_⟩, h.2⟩) (run_main m ρ)
  · exact (win r h.1 c 0 rfl).trans (V_main_arg0 m c)
  · exact (rest r h.1 c main_arg1 (by decide)).trans (V_main_arg1 m c)
  · exact (win r h.1 c 2 rfl).trans (V_main_arg2 m c)
  · exact (win r h.1 c 3 rfl).trans (V_main_arg3 m c)
  · exact (rest r h.1 c main_arg4 (by decide)).trans (V_main_arg4 m c)
  · exact (win r h.1 c 5 rfl).trans (V_main_arg5 m c)
  · exact (rest r h.1 c main_arg6 (by decide)).trans (V_main_arg6 m c)
  · exact (rest r h.1 c main_arg7 (by decide)).trans (V_main_arg7 m c)
  · exact (rest r h.1 c main_arg8 (by decide)).trans (V_main_arg8 m c)
  · exact (rest r h.1 c main_arg9 (by decide)).trans (V_main_arg9 m c)

end Cert.KernelIdeal.Hand

end
-- ==== Proof.Blocks.lean ====
/-  What the launch's blocks hold, in terms of the arguments: two batches of tokens and of the mask at each grid point,
    every other operand whole; and that the result's array ends as what the last point wrote. -/
module

public import proofs.«01_k».proof.Proof.Run
public import Idealize.ShloMosaic.Lib.Claim
public import Idealize.ShloMosaic.Lib.Pointwise

@[expose] public section

set_option maxRecDepth 16384

noncomputable section

namespace Cert.KernelIdeal.Hand

open Idealize.ShloMosaic Idealize.SL.Sem Cert.KernelIdeal Cert.KernelIdeal.Gen TcCoe

variable {F : FTy → Type} [FloatOps F] [Named F]
variable (m : (ℓ : Loc nD τ sig) → Buf (Elt F) ℓ) (c : Dev nD)

/-- The token window's block at a point is the two batches there. -/
theorem tokens_apply (t : Fin cfg0.N) (k : Fin 2) (s : Fin 2048) (d : Fin 1024) (b : Fin 16) (hb : b.val = 2 * t.val + k.val) :
    (iblk m c 0 t : Vec F S2x2048x1024 .f32) (ix3 k s d) = m ((c : Thread nD τ).loc main_arg0) (ix3 b s d) := by
  have hi : win0_0.index t 0 = t.val ∧ win0_0.index t 1 = 0 ∧ win0_0.index t 2 = 0 := by
    rcases fin_N0 t with rfl | rfl | rfl | rfl | rfl | rfl | rfl | rfl <;> decide
  unfold iblk
  rw [View.read_apply]
  show V m c main_arg0 _ = _
  rw [V_main_arg0]
  congr 1
  funext a
  apply Fin.ext
  match a with
  | ⟨0, _⟩ => show win0_0.index t 0 * 2 + 1 * k.val = b.val; rw [hi.1]; omega
  | ⟨1, _⟩ => show win0_0.index t 1 * 2048 + 1 * s.val = s.val; rw [hi.2.1]; omega
  | ⟨2, _⟩ => show win0_0.index t 2 * 1024 + 1 * d.val = d.val; rw [hi.2.2]; omega

/-- The mask as the region finds it: zeros and ones, with a unit axis. -/
theorem mask_entry (b : Fin 16) (s : Fin 2048) :
    (V m c main_call0_v1 : Vec F S16x1x2048 .f32) (ix3 b 0 s) = FloatOps.uitofp .f32 (m ((c : Thread nD τ).loc main_arg1) (ix2 b s)) := by
  entry_read
  pointwise
  rfl

/-- The mask window's block at a point is the two batches' masks there. -/
theorem mask_apply (t : Fin cfg0.N) (k : Fin 2) (s : Fin 2048) (b : Fin 16) (hb : b.val = 2 * t.val + k.val) :
    (iblk m c 1 t : Vec F S2x1x2048 .f32) (ix3 k 0 s) = FloatOps.uitofp .f32 (m ((c : Thread nD τ).loc main_arg1) (ix2 b s)) := by
  have hi : win0_1.index t 0 = t.val ∧ win0_1.index t 1 = 0 ∧ win0_1.index t 2 = 0 := by
    rcases fin_N0 t with rfl | rfl | rfl | rfl | rfl | rfl | rfl | rfl <;> decide
  rw [← mask_entry]
  unfold iblk
  rw [View.read_apply]
  show V m c main_call0_v1 _ = _
  congr 1
  funext a
  apply Fin.ext
  match a with
  | ⟨0, _⟩ => show win0_1.index t 0 * 2 + 1 * k.val = b.val; rw [hi.1]; omega
  | ⟨1, _⟩ => show win0_1.index t 1 * 1 + 1 * 0 = 0; rw [hi.2.1]
  | ⟨2, _⟩ => show win0_1.index t 2 * 2048 + 1 * s.val = s.val; rw [hi.2.2]; omega

/-- The query's block is the whole query. -/
theorem query_block (t : Fin cfg0.N) : (iblk m c 2 t : Vec F S4x1024 .f32) = V m c main_arg2 := by
  have hz : (fun a => win0_2.index t a * main_arg2.ty.shape.size a) = fun _ => 0 := funext fun a => by
    rcases fin_N0 t with rfl | rfl | rfl | rfl | rfl | rfl | rfl | rfl <;> revert a <;> decide
  exact Memref.read_access_unit_zero (Elt F) main_arg2 hz (fun a => by rw [congrFun hz a]; simp) (V m c main_arg2)

/-- The query projection's block is all of it. -/
theorem qweight_block (t : Fin cfg0.N) : (iblk m c 3 t : Vec F S128x1024 .f32) = V m c main_arg3 := by
  have hz : (fun a => win0_3.index t a * main_arg3.ty.shape.size a) = fun _ => 0 := funext fun a => by
    rcases fin_N0 t with rfl | rfl | rfl | rfl | rfl | rfl | rfl | rfl <;> revert a <;> decide
  exact Memref.read_access_unit_zero (Elt F) main_arg3 hz (fun a => by rw [congrFun hz a]; simp) (V m c main_arg3)

/-- The query bias's block is all of it. -/
theorem qbias_block (t : Fin cfg0.N) : (iblk m c 4 t : Vec F S1x128 .f32) = V m c main_call0_v2 := by
  have hz : (fun a => win0_4.index t a * main_call0_v2.ty.shape.size a) = fun _ => 0 := funext fun a => by
    rcases fin_N0 t with rfl | rfl | rfl | rfl | rfl | rfl | rfl | rfl <;> revert a <;> decide
  exact Memref.read_access_unit_zero (Elt F) main_call0_v2 hz (fun a => by rw [congrFun hz a]; simp) (V m c main_call0_v2)

/-- The key projection's block is all of it. -/
theorem kweight_block (t : Fin cfg0.N) : (iblk m c 5 t : Vec F S128x1024 .f32) = V m c main_arg5 := by
  have hz : (fun a => win0_5.index t a * main_arg5.ty.shape.size a) = fun _ => 0 := funext fun a => by
    rcases fin_N0 t with rfl | rfl | rfl | rfl | rfl | rfl | rfl | rfl <;> revert a <;> decide
  exact Memref.read_access_unit_zero (Elt F) main_arg5 hz (fun a => by rw [congrFun hz a]; simp) (V m c main_arg5)

/-- The key bias's block is all of it. -/
theorem kbias_block (t : Fin cfg0.N) : (iblk m c 6 t : Vec F S1x128 .f32) = V m c main_call0_v3 := by
  have hz : (fun a => win0_6.index t a * main_call0_v3.ty.shape.size a) = fun _ => 0 := funext fun a => by
    rcases fin_N0 t with rfl | rfl | rfl | rfl | rfl | rfl | rfl | rfl <;> revert a <;> decide
  exact Memref.read_access_unit_zero (Elt F) main_call0_v3 hz (fun a => by rw [congrFun hz a]; simp) (V m c main_call0_v3)

/-- The scale's block is all of it. -/
theorem scale_block (t : Fin cfg0.N) : (iblk m c 7 t : Vec F S1x1024 .f32) = V m c main_call0_v4 := by
  have hz : (fun a => win0_7.index t a * main_call0_v4.ty.shape.size a) = fun _ => 0 := funext fun a => by
    rcases fin_N0 t with rfl | rfl | rfl | rfl | rfl | rfl | rfl | rfl <;> revert a <;> decide
  exact Memref.read_access_unit_zero (Elt F) main_call0_v4 hz (fun a => by rw [congrFun hz a]; simp) (V m c main_call0_v4)

/-- The shift's block is all of it. -/
theorem shift_block (t : Fin cfg0.N) : (iblk m c 8 t : Vec F S1x1024 .f32) = V m c main_call0_v5 := by
  have hz : (fun a => win0_8.index t a * main_call0_v5.ty.shape.size a) = fun _ => 0 := funext fun a => by
    rcases fin_N0 t with rfl | rfl | rfl | rfl | rfl | rfl | rfl | rfl <;> revert a <;> decide
  exact Memref.read_access_unit_zero (Elt F) main_call0_v5 hz (fun a => by rw [congrFun hz a]; simp) (V m c main_call0_v5)

/-- The query bias as the region finds it: a row. -/
theorem qbias_entry (p : Fin 128) : (V m c main_call0_v2 : Vec F S1x128 .f32) (ix2 0 p) = m ((c : Thread nD τ).loc main_arg4) (ix1 p) := by
  entry_read
  pointwise

/-- The key bias as the region finds it: a row. -/
theorem kbias_entry (p : Fin 128) : (V m c main_call0_v3 : Vec F S1x128 .f32) (ix2 0 p) = m ((c : Thread nD τ).loc main_arg6) (ix1 p) := by
  entry_read
  pointwise

/-- The scale as the region finds it: a row. -/
theorem scale_entry (p : Fin 1024) : (V m c main_call0_v4 : Vec F S1x1024 .f32) (ix2 0 p) = m ((c : Thread nD τ).loc main_arg8) (ix1 p) := by
  entry_read
  pointwise

/-- The shift as the region finds it: a row. -/
theorem shift_entry (p : Fin 1024) : (V m c main_call0_v5 : Vec F S1x1024 .f32) (ix2 0 p) = m ((c : Thread nD τ).loc main_arg9) (ix1 p) := by
  entry_read
  pointwise

/-- Only the last point writes the result back, and it writes all of it. -/
theorem flushed_eq (t : Fin cfg0.N) (hf : (cfg0.win 9).flush t = true) :
    (dats m 0 c).flushed 9 t = ((cfg0.win 9).blk t).view.read (Elt F) (result m c t0_7) := by
  have hN : cfg0.N = 8 := N_0
  have h7 : t.val = 7 := by have := (flush0_9 t).mp hf; have := t.isLt; omega
  obtain rfl : t = t0_7 := Fin.ext h7
  have hz : (fun a => win0_9.index t0_7 a * main_v0.ty.shape.size a) = fun _ => 0 := funext fun a => by revert a; decide
  show (cfg0.win 9).cut (grid0.coords t0_7) ((dats m 0 c).after 9 t0_7) = _
  exact (Memref.read_access_unit_zero (Elt F) main_v0 hz (fun a => by rw [congrFun hz a]; simp) (result m c t0_7)).symm

/-- So the result's array ends as what the last point wrote. -/
theorem final_eq : (dats m 0 c).arrAt 9 cfg0.N = result m c t0_7 :=
  (dats m 0 c).arrAt_eq_of_cover 9 (result m c t0_7) (flushed_eq m c) fun i =>
    ⟨t0_7, (flush0_9 t0_7).mpr rfl, by
      show i ∈ ((View.whole main_v0).slice (win0_9.rect t0_7)).set
      rw [View.set_slice_whole, Rect.mem_set_unit]
      intro a
      have h0 : (i 0 : Nat) < 16 := (i 0).isLt
      have h1 : (i 1 : Nat) < 1024 := (i 1).isLt
      match a with
      | ⟨0, _⟩ => show win0_9.index t0_7 0 * win0_9.size 0 ≤ (i 0 : Nat) ∧ (i 0 : Nat) < win0_9.index t0_7 0 * win0_9.size 0 + win0_9.xsize (grid0.coords t0_7) 0
                  rw [show win0_9.index t0_7 0 * win0_9.size 0 = 0 from by decide +kernel, show win0_9.xsize (grid0.coords t0_7) 0 = 16 from by decide +kernel]; omega
      | ⟨1, _⟩ => show win0_9.index t0_7 1 * win0_9.size 1 ≤ (i 1 : Nat) ∧ (i 1 : Nat) < win0_9.index t0_7 1 * win0_9.size 1 + win0_9.xsize (grid0.coords t0_7) 1
                  rw [show win0_9.index t0_7 1 * win0_9.size 1 = 0 from by decide +kernel, show win0_9.xsize (grid0.coords t0_7) 1 = 1024 from by decide +kernel]; omega⟩

end Cert.KernelIdeal.Hand

end
-- ==== Proof.Pooling.lean ====
/-  The mathematics both programs share, over the extended reals: the pooling of one row of scores, and the
    normalisation of one row of features.  No program is mentioned here. -/
module

public import Idealize.ShloMosaic.PureOps.Ideal
public import Idealize.ShloMosaic.PureOps.Ideal.Laws

@[expose] public section

noncomputable section

namespace Cert.Math

open Idealize.ShloMosaic

/-- The score a masked-out token gets: the least finite word, as the number it is. -/
def floorScore : EReal := Ideal.ofBits .f32 0xFF7FFFFF#32

/-- The greatest score, started from minus infinity. -/
def peak (S : Fin 2048 → EReal) : EReal := Finset.univ.fold max (Ideal.ofBits .f32 0xFF800000#32) S

/-- A token's weight before any division. -/
def weight (S : Fin 2048 → EReal) (s : Fin 2048) : EReal := Ideal.exp (S s - peak S)

/-- A token's softmax weight, masked again. -/
def kept (S keep : Fin 2048 → EReal) (s : Fin 2048) : EReal := Ideal.div (weight S s) (∑ r, weight S r) * keep s

/-- The pooled value of one feature column: the masked weights renormalised, then summed against the column. -/
def pooled (S keep x : Fin 2048 → EReal) : EReal :=
  ∑ s, Ideal.div (kept S keep s) ((∑ r, kept S keep r) + Ideal.ofBits .f32 0x358637BD#32) * x s

/-- A row's mean. -/
def mean (f : Fin 1024 → EReal) : EReal := Ideal.div (∑ j, f j) (Ideal.ofBits .f32 0x44800000#32)

/-- A row's deviation from its mean. -/
def off (f : Fin 1024 → EReal) (j : Fin 1024) : EReal := f j - mean f

/-- A row's variance with the small constant added. -/
def spread (f : Fin 1024 → EReal) : EReal := mean (fun j => off f j * off f j) + Ideal.ofBits .f32 0x3727C5AC#32

/-- The normalised row, scaled and shifted, as the reference spells it: division by the root. -/
def normal (f lw lb : Fin 1024 → EReal) (j : Fin 1024) : EReal := Ideal.div (off f j) (Ideal.sqrt (spread f)) * lw j + lb j

end Cert.Math

end
-- ==== Proof.Payload.lean ====
/-  What the kernel's block computations are, read one element at a time over the extended reals. -/
module

public import proofs.«01_k».proof.Proof.Gen.KernelIdeal.Skeleton
public import proofs.«01_k».proof.Proof.Gen.KernelIdeal
public import proofs.«01_k».proof.Proof.Pooling
public import Idealize.ShloMosaic.Lib.Pointwise

@[expose] public section

set_option maxRecDepth 16384

noncomputable section

namespace Cert.KernelIdeal.Hand

open Idealize.ShloMosaic Cert.KernelIdeal Cert.KernelIdeal.Gen Cert.Math

/-- The named constant is the inverse of the root of 128. -/
theorem named_inv : Named.named (F := Ideal) κ "inv_sqrt_p" (φ := .f32) 0x3DB504F3#32 = (((Real.sqrt 128)⁻¹ : ℝ) : EReal) := rfl

/-- The projected query: head `h`, coordinate `p`. -/
theorem pay7_apply (a : Vec Ideal S4x1024 .f32) (w : Vec Ideal S128x1024 .f32) (b : Vec Ideal S1x128 .f32) (h : Fin 4) (p : Fin 128) :
    k0_pay7 a w b (ix2 h p) = (∑ d : Fin 1024, a (ix2 h d) * w (ix2 p d)) + b (ix2 0 p) := by
  pointwise [k0_pay7]

/-- The query carried back through the key projection, scaled. -/
theorem pay8_apply (a : Vec Ideal S4x1024 .f32) (w : Vec Ideal S128x1024 .f32) (b : Vec Ideal S1x128 .f32) (v : Vec Ideal S128x1024 .f32)
    (h : Fin 4) (d : Fin 1024) :
    k0_pay8 a w b v (ix2 h d) = (∑ p : Fin 128, k0_pay7 a w b (ix2 h p) * v (ix2 p d)) * (((Real.sqrt 128)⁻¹ : ℝ) : EReal) := by
  pointwise [k0_pay8]
  rfl

/-- The query against the key bias, scaled. -/
theorem pay9_apply (a : Vec Ideal S4x1024 .f32) (w : Vec Ideal S128x1024 .f32) (b : Vec Ideal S1x128 .f32) (v : Vec Ideal S1x128 .f32) (h : Fin 4) :
    k0_pay9 a w b v (ix2 h 0) = (∑ p : Fin 128, k0_pay7 a w b (ix2 h p) * v (ix2 0 p)) * (((Real.sqrt 128)⁻¹ : ℝ) : EReal) := by
  pointwise [k0_pay9]
  rfl

/-- One batch's pooled features, from the folded query, its bias and the batch's tokens and mask. -/
theorem pay10_apply (v3 : Vec Ideal S4x1 .f32) (v4 : Vec Ideal S1x2048x1024 .f32) (v6 : Vec Ideal S4x1024 .f32) (v10 : Vec Ideal S1x1x2048 .f32)
    (h : Fin 4) (d : Fin 1024) :
    k0_pay10 v3 v4 v6 v10 (ix2 h d)
      = pooled (fun s => if 0 < v10 (ix3 0 0 s) then (∑ k : Fin 1024, v6 (ix2 h k) * v4 (ix3 0 s k)) + v3 (ix2 h 0) else floorScore)
          (fun s => v10 (ix3 0 0 s)) (fun s => v4 (ix3 0 s d)) := by
  pointwise [k0_pay10]
  rfl

/-- The store of the first batch's row only adds a unit axis. -/
theorem pay11_apply (v : FVec Ideal S4x1024 .f32) (h : Fin 4) (d : Fin 1024) : k0_pay11 v (ix3 0 h d) = v (ix2 h d) := by
  pointwise [k0_pay11]

/-- The store of the second batch's row only adds a unit axis. -/
theorem pay1_apply (v : FVec Ideal S4x1024 .f32) (h : Fin 4) (d : Fin 1024) : k0_pay1 v (ix3 0 h d) = v (ix2 h d) := by
  pointwise [k0_pay1]

/-- The second batch's computation is the first's. -/
theorem pay12_eq (v3 : Vec Ideal S4x1 .f32) (v4 : Vec Ideal S1x2048x1024 .f32) (v6 : Vec Ideal S4x1024 .f32) (v10 : Vec Ideal S1x1x2048 .f32) :
    k0_pay12 v3 v4 v6 v10 = k0_pay10 v3 v4 v6 v10 := rfl

variable (g0 g1 g2 g3 : Vec Ideal S16x1x1024 .f32) (w0 w1 w2 w3 : Vec Ideal S1024x1024 .f32) (lw lb : Vec Ideal S1x1024 .f32)

/-- The output projection, a head at a time. -/
theorem pay3_apply (b : Fin 16) (j : Fin 1024) :
    k0_pay3 g0 w0 g1 w1 g2 w2 g3 w3 (ix2 b j)
      = (((∑ d : Fin 1024, g0 (ix3 b 0 d) * w0 (ix2 j d)) + ∑ d : Fin 1024, g1 (ix3 b 0 d) * w1 (ix2 j d))
          + ∑ d : Fin 1024, g2 (ix3 b 0 d) * w2 (ix2 j d)) + ∑ d : Fin 1024, g3 (ix3 b 0 d) * w3 (ix2 j d) := by
  pointwise [k0_pay3]

/-- The kernel's normalisation: multiplication by the reciprocal root. -/
theorem pay2_apply (b : Fin 16) (j : Fin 1024) :
    k0_pay2 (k0_pay3 g0 w0 g1 w1 g2 w2 g3 w3) (k0_pay5 g0 w0 g1 w1 g2 w2 g3 w3) (k0_pay6 g0 w0 g1 w1 g2 w2 g3 w3) lw lb (ix2 b j)
      = off (fun j => k0_pay3 g0 w0 g1 w1 g2 w2 g3 w3 (ix2 b j)) j * Ideal.rsqrt (spread (fun j => k0_pay3 g0 w0 g1 w1 g2 w2 g3 w3 (ix2 b j)))
          * lw (ix2 0 j) + lb (ix2 0 j) := by
  pointwise [k0_pay2, k0_pay4, k0_pay5, k0_pay6]
  rfl

end Cert.KernelIdeal.Hand

end
-- ==== Proof.Reference.lean ====
/-  What the reference computes, read one element at a time over the extended reals: the projected queries, the masked
    scores, the pooled features, the projected features and the normalised result. -/
module

public import proofs.«01_k».proof.Proof.Gen.ReferenceIdeal.Read
public import proofs.«01_k».proof.Proof.Pooling
public import Idealize.ShloMosaic.Lib.Pointwise

@[expose] public section

set_option maxRecDepth 16384

noncomputable section

namespace Cert.ReferenceIdeal.Hand

open Idealize.ShloMosaic Cert.ReferenceIdeal Cert.ReferenceIdeal.Gen Cert.ReferenceIdeal.Read Cert.Math

variable (x0 : FVec Ideal S16x2048x1024 .f32) (x1 : IVec S16x2048 1) (x2 : FVec Ideal S4x1024 .f32) (x3 : FVec Ideal S128x1024 .f32)
  (x4 : FVec Ideal S128 .f32) (x5 : FVec Ideal S128x1024 .f32) (x6 : FVec Ideal S128 .f32) (x7 : FVec Ideal S1024x4096 .f32) (x8 x9 : FVec Ideal S1024 .f32)

/-- The projected query: head `h`, coordinate `p`. -/
theorem query_apply (h : Fin 4) (p : Fin 128) :
    val_main_v4 (F := Ideal) x2 x3 x4 (ix2 h p) = (∑ d : Fin 1024, x2 (ix2 h d) * x3 (ix2 p d)) + x4 (ix1 p) := by
  pointwise [val_main_v4, val_main_v3, val_main_v2, val_main_v1, val_main_v0]

/-- The masked score of a token: the scaled product of its key with the query, or the least finite number. -/
theorem score_apply (b : Fin 16) (h : Fin 4) (s : Fin 2048) :
    val_main_v16 (F := Ideal) x0 x1 x2 x3 x4 x5 x6 (ix3 b h s)
      = Scalar.select (x1 (ix2 b s))
          (Ideal.div (∑ p : Fin 128, ((∑ d : Fin 1024, x0 (ix3 b s d) * x5 (ix2 p d)) + x6 (ix1 p)) * val_main_v4 (F := Ideal) x2 x3 x4 (ix2 h p))
            (Ideal.sqrt (Ideal.ofBits .f32 0x43000000#32)))
          floorScore := by
  pointwise [val_main_v16, val_main_call0_v0, val_main_call0_v1, val_main_v15, val_main_v14, val_main_v13, val_main_v12, val_main_cst,
    val_main_v11, val_main_v10, val_main_v9, val_main_v8, val_main_v7, val_main_v6, val_main_v5, val_main_cst_0]
  rfl

/-- Taking the maximum with the start value once more changes nothing. -/
theorem peak_apply (b : Fin 16) (h : Fin 4) :
    val_main_v19 (F := Ideal) x0 x1 x2 x3 x4 x5 x6 (ix2 b h) = peak (fun s => val_main_v16 (F := Ideal) x0 x1 x2 x3 x4 x5 x6 (ix3 b h s)) := by
  pointwise [val_main_v19, val_main_v17, val_main_cst_1, val_main_v18, val_main_cst_2]
  exact max_eq_right ((Finset.le_fold_max _).mpr (Or.inl le_rfl))

/-- The masked softmax weight of a token. -/
theorem kept_apply (b : Fin 16) (h : Fin 4) (s : Fin 2048) :
    val_main_v30 (F := Ideal) x0 x1 x2 x3 x4 x5 x6 (ix3 b h s)
      = kept (fun s => val_main_v16 (F := Ideal) x0 x1 x2 x3 x4 x5 x6 (ix3 b h s)) (fun s => FloatOps.uitofp (F := Ideal) .f32 (x1 (ix2 b s))) s := by
  pointwise [val_main_v30, val_main_v29, val_main_v28, val_main_v27, val_main_v26, val_main_v25, val_main_v24, val_main_v23, val_main_v22,
    val_main_v21, val_main_v20, val_main_v15, val_main_cst_3]
  rw [peak_apply]
  rfl

/-- The pooled features of a batch and head. -/
theorem pooled_apply (b : Fin 16) (h : Fin 4) (d : Fin 1024) :
    val_main_v37 (F := Ideal) x0 x1 x2 x3 x4 x5 x6 (ix3 b h d)
      = pooled (fun s => val_main_v16 (F := Ideal) x0 x1 x2 x3 x4 x5 x6 (ix3 b h s)) (fun s => FloatOps.uitofp (F := Ideal) .f32 (x1 (ix2 b s)))
          (fun s => x0 (ix3 b s d)) := by
  pointwise [val_main_v37, val_main_v36, val_main_v35, val_main_v34, val_main_v33, val_main_v32, val_main_v31, val_main_cst_4, val_main_cst_5]
  simp only [kept_apply]
  rfl

/-- The output projection over the four heads laid end to end. -/
theorem projected_apply (b : Fin 16) (j : Fin 1024) :
    val_main_v40 (F := Ideal) x0 x1 x2 x3 x4 x5 x6 x7 (ix2 b j)
      = ∑ k : Fin 4096, val_main_v37 (F := Ideal) x0 x1 x2 x3 x4 x5 x6 (ix3 b ⟨k.val / 1024, by omega⟩ ⟨k.val % 1024, by omega⟩) * x7 (ix2 j k) := by
  pointwise [val_main_v40, val_main_v39, val_main_v38]

/-- The reference's result: the projected row normalised, scaled and shifted. -/
theorem result_apply (b : Fin 16) (j : Fin 1024) :
    val_main_v64 (F := Ideal) x0 x1 x2 x3 x4 x5 x6 x7 x8 x9 (ix2 b j)
      = normal (fun j => val_main_v40 (F := Ideal) x0 x1 x2 x3 x4 x5 x6 x7 (ix2 b j)) (fun j => x8 (ix1 j)) (fun j => x9 (ix1 j)) j := by
  pointwise [val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46,
    val_main_v45, val_main_v44, val_main_v43, val_main_v42, val_main_v41, val_main_cst_6, val_main_cst_7, val_main_cst_8, val_main_cst_9,
    val_main_cst_10]
  rfl

end Cert.ReferenceIdeal.Hand

end
-- ==== Proof.Algebra.lean ====
/-  The four equations of extended-real arithmetic the proof rests on: multiplying by a reciprocal root against dividing
    by the root, folding the key projection into the query, a sum over four heads laid end to end, and what the
    precondition's comparison says of a number.  No program is mentioned here. -/
module

public import proofs.«01_k».proof.Proof.Pooling
public import Idealize.ShloMosaic.Lib.Pointwise

@[expose] public section

noncomputable section

namespace Cert.Math

open Idealize.ShloMosaic

/-- The word of 1024 is the number 1024. -/
theorem word_1024 : Ideal.ofBits .f32 0x44800000#32 = ((1024 : ℝ) : EReal) := by
  simp [Ideal.ofBits, Ideal.ieee, -EReal.coe_mul]; norm_num

/-- The word of 128 is the number 128. -/
theorem word_128 : Ideal.ofBits .f32 0x43000000#32 = ((128 : ℝ) : EReal) := by
  simp [Ideal.ofBits, Ideal.ieee, -EReal.coe_mul]; norm_num

/-- The small constant under the root is positive. -/
theorem word_small : 0 < Ideal.ofBits .f32 0x3727C5AC#32 := by
  simp [Ideal.ofBits, Ideal.ieee, -EReal.coe_mul]

/-- A square is never negative. -/
theorem square_nonneg (x : EReal) : 0 ≤ x * x := by
  induction x with
  | bot => simp
  | top => simp
  | coe r => exact_mod_cast mul_self_nonneg r

/-- The variance with the small constant is positive. -/
theorem spread_pos (f : Fin 1024 → EReal) : 0 < spread f := by
  have h : 0 ≤ mean (fun j => off f j * off f j) := by
    rw [mean, word_1024, Ideal.div_coe (by norm_num)]
    exact mul_nonneg (Finset.sum_nonneg fun j _ => square_nonneg _) (by exact_mod_cast (by norm_num : (0 : ℝ) ≤ 1 / 1024))
  exact lt_of_lt_of_le word_small (le_add_of_nonneg_left h)

/-- Multiplying by the reciprocal root of a positive number is dividing by its root. -/
theorem mul_rsqrt (x y : EReal) (hy : 0 < y) : x * Ideal.rsqrt y = Ideal.div x (Ideal.sqrt y) := by
  induction y with
  | bot => exact absurd hy (by simp)
  | top => simp [Ideal.div]
  | coe r =>
    have hr : 0 < r := by exact_mod_cast hy
    rw [Ideal.rsqrt_coe, Ideal.sqrt_coe, if_neg hr.le.not_gt, if_neg hr.ne', if_neg hr.le.not_gt, Ideal.div_coe (Real.sqrt_pos.mpr hr).ne', one_div]

/-- A real factor distributes over a sum one of whose terms is real. -/
theorem add_mul_real (a q : ℝ) (b : EReal) : ((a : EReal) + b) * (q : EReal) = (a : EReal) * q + b * q := by
  induction b with
  | coe r => exact_mod_cast add_mul a r q
  | top =>
    rw [EReal.coe_add_top]
    rcases lt_trichotomy q 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy q 0 with h | h | h
    · rw [EReal.bot_mul_coe_of_neg h, ← EReal.coe_mul, EReal.coe_add_top]
    · subst h; simp
    · rw [EReal.bot_mul_coe_of_pos h, ← EReal.coe_mul, EReal.add_bot]

/-- A finite sum of real numbers, read as extended reals. -/
theorem sum_real {n : ℕ} (f : Fin n → ℝ) : (∑ i, (f i : EReal)) = ((∑ i, f i : ℝ) : EReal) :=
  (map_sum (⟨⟨fun r : ℝ => (r : EReal), EReal.coe_zero⟩, EReal.coe_add⟩ : ℝ →+ EReal) f Finset.univ).symm

/-- The folded score is the plain one, over the reals. -/
theorem fold_real (q : Fin 128 → ℝ) (W : Fin 128 → Fin 1024 → ℝ) (x : Fin 1024 → ℝ) (c : ℝ) :
    (∑ d, ((∑ p, q p * W p d) * c) * x d) = (∑ p, (∑ d, x d * W p d) * q p) * c := by
  simp only [Finset.sum_mul]
  rw [Finset.sum_comm]
  exact Finset.sum_congr rfl fun p _ => Finset.sum_congr rfl fun d _ => by ring

/-- The folded score is the plain one: the key bias may be any extended real. -/
theorem fold_score (q : Fin 128 → ℝ) (W : Fin 128 → Fin 1024 → ℝ) (x : Fin 1024 → ℝ) (β : Fin 128 → EReal) (c : ℝ) :
    (∑ d, ((∑ p, (q p : EReal) * (W p d : EReal)) * (c : EReal)) * (x d : EReal)) + (∑ p, (q p : EReal) * β p) * (c : EReal)
      = (∑ p, ((∑ d, (x d : EReal) * (W p d : EReal)) + β p) * (q p : EReal)) * (c : EReal) := by
  have hr : (∑ p, ((∑ d, (x d : EReal) * (W p d : EReal)) + β p) * (q p : EReal))
      = ((∑ p, (∑ d, x d * W p d) * q p : ℝ) : EReal) + ∑ p, (q p : EReal) * β p := by
    rw [← sum_real, ← Finset.sum_add_distrib]
    refine Finset.sum_congr rfl fun p _ => ?_
    simp only [← EReal.coe_mul, sum_real]
    rw [add_mul_real, mul_comm (β p), EReal.coe_mul]
  have hl : (∑ d, ((∑ p, (q p : EReal) * (W p d : EReal)) * (c : EReal)) * (x d : EReal))
      = ((∑ p, (∑ d, x d * W p d) * q p : ℝ) : EReal) * (c : EReal) := by
    simp only [← EReal.coe_mul, sum_real]
    rw [fold_real]
  rw [hr, add_mul_real, hl]

/-- A number over the root of 128 is the number times that root's inverse. -/
theorem div_root (x : EReal) : Ideal.div x (Ideal.sqrt (Ideal.ofBits .f32 0x43000000#32)) = x * (((Real.sqrt 128)⁻¹ : ℝ) : EReal) := by
  rw [word_128, Ideal.sqrt_coe, if_neg (by norm_num), Ideal.div_coe (Real.sqrt_pos.mpr (by norm_num)).ne', one_div]

/-- A sum over four rows of 1024 laid end to end, a row at a time. -/
theorem sum_heads (f : Fin 4 → Fin 1024 → Fin 4096 → EReal) :
    (∑ k : Fin 4096, f ⟨k.val / 1024, by omega⟩ ⟨k.val % 1024, by omega⟩ k)
      = (((∑ d : Fin 1024, f 0 d ⟨d.val, by omega⟩) + ∑ d : Fin 1024, f 1 d ⟨1024 + d.val, by omega⟩)
          + ∑ d : Fin 1024, f 2 d ⟨2048 + d.val, by omega⟩) + ∑ d : Fin 1024, f 3 d ⟨3072 + d.val, by omega⟩ := by
  have e : (∑ k : Fin (4 * 1024), f ⟨k.val / 1024, by omega⟩ ⟨k.val % 1024, by omega⟩ ⟨k.val, by omega⟩)
      = ∑ h : Fin 4, ∑ d : Fin 1024, f h d ⟨1024 * h.val + d.val, by omega⟩ := by
    rw [← Fintype.sum_prod_type' (f := fun (h : Fin 4) (d : Fin 1024) => f h d ⟨1024 * h.val + d.val, by omega⟩)]
    refine (Fintype.sum_equiv (finProdFinEquiv (m := 4) (n := 1024)) _ _ fun a => ?_).symm
    obtain ⟨h, d⟩ := a
    have e1 : (finProdFinEquiv (m := 4) (n := 1024) (h, d)).val = d.val + 1024 * h.val := rfl
    have a0 : h = ⟨(finProdFinEquiv (m := 4) (n := 1024) (h, d)).val / 1024, by omega⟩ := Fin.ext (by show h.val = _ / 1024; rw [e1]; omega)
    have a1 : d = ⟨(finProdFinEquiv (m := 4) (n := 1024) (h, d)).val % 1024, by omega⟩ := Fin.ext (by show d.val = _ % 1024; rw [e1]; omega)
    have a2 : (⟨1024 * h.val + d.val, by omega⟩ : Fin 4096) = ⟨(finProdFinEquiv (m := 4) (n := 1024) (h, d)).val, by omega⟩ :=
      Fin.ext (by show 1024 * h.val + d.val = (finProdFinEquiv (m := 4) (n := 1024) (h, d)).val; rw [e1]; exact Nat.add_comm _ _)
    exact congr (congr (congrArg f a0) a1) a2
  refine e.trans ?_
  rw [Fin.sum_univ_four]
  simp only [Fin.isValue, Fin.val_zero, Fin.val_one, mul_zero, zero_add, mul_one]
  rfl

/-- A number whose magnitude compares below infinity is real. -/
theorem real_of_below {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | coe r => exact ⟨r, rfl⟩
  | top => simp [Ideal.cmp] at h
  | bot => simp [Ideal.cmp] at h

end Cert.Math

end
-- ==== Proof.Equation.lean ====
/-  The equation: what the kernel leaves is what the reference leaves, element by element over the extended reals, for
    arguments whose rows (where not masked out), queries and projections are real numbers. -/
module

public import proofs.«01_k».proof.Proof.Blocks
public import proofs.«01_k».proof.Proof.Payload
public import proofs.«01_k».proof.Proof.Reference
public import proofs.«01_k».proof.Proof.Algebra
public import Idealize.ShloMosaic.Lib.Pointwise
public import Idealize.ShloMosaic.Lib.Pointwise.IndexBridge

@[expose] public section

set_option maxRecDepth 16384

noncomputable section

namespace Cert.KernelIdeal.Hand

open Idealize.ShloMosaic Idealize.SL.Sem Cert.KernelIdeal Cert.KernelIdeal.Gen TcCoe Cert.Math
open Cert.ReferenceIdeal.Read Cert.ReferenceIdeal.Hand

/-! ## Loads of a part of a block -/

/-- The first batch's tokens. -/
theorem tok0_apply (x : Vec Ideal S2x2048x1024 .f32) (s : Fin 2048) (d : Fin 1024) : tok0 x (ix3 0 s d) = x (ix3 0 s d) := by
  unfold tok0
  pointwise
/-- The second batch's tokens. -/
theorem tok1_apply (x : Vec Ideal S2x2048x1024 .f32) (s : Fin 2048) (d : Fin 1024) : tok1 x (ix3 0 s d) = x (ix3 1 s d) := by
  unfold tok1
  pointwise
/-- The first batch's mask. -/
theorem msk0_apply (x : Vec Ideal S2x1x2048 .f32) (s : Fin 2048) : msk0 x (ix3 0 0 s) = x (ix3 0 0 s) := by
  unfold msk0
  pointwise
/-- The second batch's mask. -/
theorem msk1_apply (x : Vec Ideal S2x1x2048 .f32) (s : Fin 2048) : msk1 x (ix3 0 0 s) = x (ix3 1 0 s) := by
  unfold msk1
  pointwise

/-! ## The scores -/

/-- What the precondition says of the arguments the scores are made of. -/
structure Real (x0 : FVec Ideal S16x2048x1024 .f32) (x1 : IVec S16x2048 1) (x2 : FVec Ideal S4x1024 .f32) (x3 : FVec Ideal S128x1024 .f32)
    (x4 : FVec Ideal S128 .f32) (x5 : FVec Ideal S128x1024 .f32) : Prop where
  rows : ∀ b s d, x1 (ix2 b s) = 1#1 → ∃ r : ℝ, x0 (ix3 b s d) = (r : EReal)
  query : ∀ h d, ∃ r : ℝ, x2 (ix2 h d) = (r : EReal)
  qweight : ∀ p d, ∃ r : ℝ, x3 (ix2 p d) = (r : EReal)
  qbias : ∀ p, ∃ r : ℝ, x4 (ix1 p) = (r : EReal)
  kweight : ∀ p d, ∃ r : ℝ, x5 (ix2 p d) = (r : EReal)

variable {x0 : FVec Ideal S16x2048x1024 .f32} {x1 : IVec S16x2048 1} {x2 : FVec Ideal S4x1024 .f32} {x3 : FVec Ideal S128x1024 .f32}
  {x4 : FVec Ideal S128 .f32} {x5 : FVec Ideal S128x1024 .f32} (x6 : FVec Ideal S128 .f32)

/-- A projected query is real. -/
theorem query_real (hr : Real x0 x1 x2 x3 x4 x5) (h : Fin 4) (p : Fin 128) : ∃ r : ℝ, val_main_v4 (F := Ideal) x2 x3 x4 (ix2 h p) = (r : EReal) := by
  choose q hq using hr.query
  choose w hw using hr.qweight
  choose b hb using hr.qbias
  refine ⟨(∑ d, q h d * w p d) + b p, ?_⟩
  rw [query_apply]
  simp only [hq, hw, hb, ← EReal.coe_mul, sum_real, ← EReal.coe_add]

/-- The kernel's masked score is the reference's. -/
theorem score_eq (hr : Real x0 x1 x2 x3 x4 x5) (b : Fin 16) (h : Fin 4) (s : Fin 2048) :
    (if 0 < FloatOps.uitofp (F := Ideal) .f32 (x1 (ix2 b s)) then
        (∑ k : Fin 1024, ((∑ p : Fin 128, val_main_v4 (F := Ideal) x2 x3 x4 (ix2 h p) * x5 (ix2 p k)) * (((Real.sqrt 128)⁻¹ : ℝ) : EReal)) * x0 (ix3 b s k))
          + (∑ p : Fin 128, val_main_v4 (F := Ideal) x2 x3 x4 (ix2 h p) * x6 (ix1 p)) * (((Real.sqrt 128)⁻¹ : ℝ) : EReal)
      else floorScore) = val_main_v16 (F := Ideal) x0 x1 x2 x3 x4 x5 x6 (ix3 b h s) := by
  rw [score_apply, div_root]
  rcases (by decide : ∀ k : BitVec 1, k = 1#1 ∨ k = 0#1) (x1 (ix2 b s)) with e | e
  · have hpos : 0 < FloatOps.uitofp (F := Ideal) .f32 (1#1 : BitVec 1) := by
      show (0 : EReal) < (((1#1 : BitVec 1).toNat : ℝ) : EReal)
      exact_mod_cast (by norm_num : (0 : ℝ) < 1)
    rw [e, if_pos hpos]
    show _ = (_ : EReal)
    choose q hq using query_real hr h
    choose x hx using fun d => hr.rows b s d e
    choose W hW using hr.kweight
    simp only [hq, hx, hW]
    exact fold_score q W x (fun p => x6 (ix1 p)) _
  · have hneg : ¬ 0 < FloatOps.uitofp (F := Ideal) .f32 (0#1 : BitVec 1) := by
      show ¬ (0 : EReal) < (((0#1 : BitVec 1).toNat : ℝ) : EReal)
      simp
    rw [e, if_neg hneg]
    rfl

/-! ## The gathered rows -/

variable (m : (ℓ : Loc nD τ sig) → Buf (Elt Ideal) ℓ) (c : Dev nD)

/-- The kernel's projected query is the reference's. -/
theorem pay7_eq (h : Fin 4) (p : Fin 128) :
    k0_pay7 (iblk m c 2 t0_0) (iblk m c 3 t0_0) (iblk m c 4 t0_0) (ix2 h p)
      = val_main_v4 (F := Ideal) (m ((c : Thread nD τ).loc main_arg2)) (m ((c : Thread nD τ).loc main_arg3)) (m ((c : Thread nD τ).loc main_arg4)) (ix2 h p) := by
  rw [pay7_apply, query_apply, query_block, qweight_block, qbias_block, qbias_entry, V_main_arg2, V_main_arg3]

/-- The folded query. -/
theorem Qv_apply (h : Fin 4) (d : Fin 1024) :
    Qv m c (ix2 h d)
      = (∑ p : Fin 128, val_main_v4 (F := Ideal) (m ((c : Thread nD τ).loc main_arg2)) (m ((c : Thread nD τ).loc main_arg3)) (m ((c : Thread nD τ).loc main_arg4)) (ix2 h p)
          * m ((c : Thread nD τ).loc main_arg5) (ix2 p d)) * (((Real.sqrt 128)⁻¹ : ℝ) : EReal) := by
  rw [Qv, pay8_apply, kweight_block, V_main_arg5]
  simp only [pay7_eq]

/-- The folded bias. -/
theorem Cv_apply (h : Fin 4) :
    Cv m c (ix2 h 0)
      = (∑ p : Fin 128, val_main_v4 (F := Ideal) (m ((c : Thread nD τ).loc main_arg2)) (m ((c : Thread nD τ).loc main_arg3)) (m ((c : Thread nD τ).loc main_arg4)) (ix2 h p)
          * m ((c : Thread nD τ).loc main_arg6) (ix1 p)) * (((Real.sqrt 128)⁻¹ : ℝ) : EReal) := by
  rw [Cv, pay9_apply]
  rw [kbias_block]
  simp only [pay7_eq]
  congr 1
  exact Finset.sum_congr rfl fun p _ => by rw [kbias_entry]

/-- What the precondition says of the arguments in memory. -/
abbrev RealArgs : Prop :=
  Real (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One batch's row, from tokens and mask that are batch `b`'s: the reference's pooled features. -/
theorem row_eq (hr : RealArgs m c) (b : Fin 16) (x : Vec Ideal S1x2048x1024 .f32) (k : Vec Ideal S1x1x2048 .f32)
    (hx : ∀ s d, x (ix3 0 s d) = m ((c : Thread nD τ).loc main_arg0) (ix3 b s d))
    (hk : ∀ s, k (ix3 0 0 s) = FloatOps.uitofp (F := Ideal) .f32 (m ((c : Thread nD τ).loc main_arg1) (ix2 b s))) (h : Fin 4) (d : Fin 1024) :
    k0_pay10 (Cv m c) x (Qv m c) k (ix2 h d)
      = val_main_v37 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (ix3 b h d) := by
  rw [pay10_apply, pooled_apply]
  simp only [hx, hk, Qv_apply, Cv_apply]
  congr 1
  exact funext fun s => score_eq (m ((c : Thread nD τ).loc main_arg6)) hr b h s

/-- The gathered rows are the reference's pooled features. -/
theorem gathered_eq (hr : RealArgs m c) (b : Fin 16) (h : Fin 4) (d : Fin 1024) :
    G m c (ix3 b h d)
      = val_main_v37 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (ix3 b h d) := by
  show (if b.val % 2 = 1 then row1 (Qv m c) (Cv m c) (iblk m c 0 (ptOf b)) (iblk m c 1 (ptOf b)) (ix3 0 h d)
    else row0 (Qv m c) (Cv m c) (iblk m c 0 (ptOf b)) (iblk m c 1 (ptOf b)) (ix3 0 h d)) = _
  have hp : (ptOf b).val = b.val / 2 := rfl
  split
  · rw [row1, pay1_apply, pay12_eq]
    refine row_eq m c hr b _ _ (fun s d => ?_) (fun s => ?_) h d
    · rw [tok1_apply]; exact tokens_apply m c _ 1 s d b (by rw [hp]; show b.val = 2 * (b.val / 2) + 1; omega)
    · rw [msk1_apply]; exact mask_apply m c _ 1 s b (by rw [hp]; show b.val = 2 * (b.val / 2) + 1; omega)
  · rw [row0, pay11_apply]
    refine row_eq m c hr b _ _ (fun s d => ?_) (fun s => ?_) h d
    · rw [tok0_apply]; exact tokens_apply m c _ 0 s d b (by rw [hp]; show b.val = 2 * (b.val / 2) + 0; omega)
    · rw [msk0_apply]; exact mask_apply m c _ 0 s b (by rw [hp]; show b.val = 2 * (b.val / 2) + 0; omega)

/-! ## The projection and the normalisation -/

/-- A head's row of the gathered features at a coordinate. -/
theorem headRow_apply (g : Vec Ideal S16x4x1024 .f32) (h : Fin 4) (inb) (b : Fin 16) (d : Fin 1024) :
    headRow h.val inb g (ix3 b 0 d) = g (ix3 b h d) := by
  unfold headRow
  show g _ = g _
  congr 1
  funext a
  apply Fin.ext
  match a with
  | ⟨0, _⟩ => show 0 + 1 * b.val = b.val; omega
  | ⟨1, _⟩ => show h.val + 1 * 0 = h.val; omega
  | ⟨2, _⟩ => show 0 + 1 * d.val = d.val; omega

/-- The columns that meet a head, at a coordinate. -/
theorem headCols_apply (w : Vec Ideal S1024x4096 .f32) (o : ℕ) (inb) (j : Fin 1024) (d : Fin 1024) (k : Fin 4096) (hk : k.val = o + d.val) :
    headCols o inb w (ix2 j d) = w (ix2 j k) := by
  unfold headCols
  show w _ = w _
  congr 1
  funext a
  apply Fin.ext
  match a with
  | ⟨0, _⟩ => show 0 + 1 * j.val = j.val; omega
  | ⟨1, _⟩ => show o + 1 * d.val = k.val; omega

/-- The kernel's projection, four heads one after another, is one sum over the heads laid end to end. -/
theorem projection_eq (g : Vec Ideal S16x4x1024 .f32) (w : Vec Ideal S1024x4096 .f32) (b : Fin 16) (j : Fin 1024) :
    k0_pay3 (headRow 0 inb_S16x4x1024_S16x1x1024_0_0_0 g) (headCols 0 inb_S1024x4096_S1024x1024_0_0 w)
      (headRow 1 inb_S16x4x1024_S16x1x1024_0_1_0 g) (headCols 1024 inb_S1024x4096_S1024x1024_0_1024 w)
      (headRow 2 inb_S16x4x1024_S16x1x1024_0_2_0 g) (headCols 2048 inb_S1024x4096_S1024x1024_0_2048 w)
      (headRow 3 inb_S16x4x1024_S16x1x1024_0_3_0 g) (headCols 3072 inb_S1024x4096_S1024x1024_0_3072 w) (ix2 b j)
      = ∑ k : Fin 4096, g (ix3 b ⟨k.val / 1024, by omega⟩ ⟨k.val % 1024, by omega⟩) * w (ix2 j k) := by
  rw [pay3_apply, sum_heads (fun h d k => g (ix3 b h d) * w (ix2 j k))]
  refine congrArg₂ _ (congrArg₂ _ (congrArg₂ _ ?_ ?_) ?_) ?_ <;> refine Finset.sum_congr rfl fun d _ => congrArg₂ _ ?_ ?_
  · exact headRow_apply g 0 _ b d
  · exact headCols_apply w 0 _ j d _ (Nat.zero_add _).symm
  · exact headRow_apply g 1 _ b d
  · exact headCols_apply w 1024 _ j d _ rfl
  · exact headRow_apply g 2 _ b d
  · exact headCols_apply w 2048 _ j d _ rfl
  · exact headRow_apply g 3 _ b d
  · exact headCols_apply w 3072 _ j d _ rfl

/-- The equation, at an element. -/
theorem result_eq_at (hr : RealArgs m c) (b : Fin 16) (j : Fin 1024) :
    result m c t0_7 (ix2 b j)
      = val_main_v64 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (ix2 b j) := by
  rw [result, normed, pay2_apply, mul_rsqrt _ _ (spread_pos _), result_apply, scale_block, shift_block, scale_entry, shift_entry]
  simp only [projection_eq, projected_apply, gathered_eq m c hr, V_main_arg7]
  rfl

/-- The equation: the two results are one array. -/
theorem result_eq (hr : RealArgs m c) :
    result m c t0_7
      = val_main_v64 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) :=
  funext fun i => by rw [eq_ix2 i]; exact result_eq_at m c hr _ _

end Cert.KernelIdeal.Hand

end
-- ==== Proof.Precondition.lean ====
/-  What the precondition says of the arguments, element by element. -/
module

public import proofs.«01_k».proof.Pre_finite
public import proofs.«01_k».proof.Proof.Gen.Pre_finite
public import proofs.«01_k».proof.Proof.Equation

@[expose] public section

set_option maxRecDepth 16384

noncomputable section

namespace Cert.Pre_finite.Hand

open Idealize.ShloMosaic Cert.Pre_finite Cert.Math

variable [Facts]
variable (x0 : FVec Ideal S16x2048x1024 .f32) (x1 : IVec S16x2048 1) (x2 : FVec Ideal S4x1024 .f32) (x3 : FVec Ideal S128x1024 .f32)
  (x4 : FVec Ideal S128 .f32) (x5 : FVec Ideal S128x1024 .f32) (x6 : FVec Ideal S128 .f32) (x7 : FVec Ideal S1024x4096 .f32) (x8 x9 : FVec Ideal S1024 .f32)

/-- A token's entry is below infinity in magnitude, or its row is masked out. -/
theorem rows_apply (b : Fin 16) (s : Fin 2048) (d : Fin 1024) :
    (fn (F := Ideal) x0 x1 x2 x3 x4 x5 x6 x7 x8 x9).1 (ix3 b s d)
      = IntOp.ori (Ideal.cmp .olt (max (x0 (ix3 b s d)) (-x0 (ix3 b s d))) (Ideal.ofBits .f32 0x7F800000#32)) (~~~(x1 (ix2 b s))) := by
  pointwise [fn]
  rfl

/-- A query's entry is below infinity in magnitude. -/
theorem query_apply (h : Fin 4) (d : Fin 1024) :
    (fn (F := Ideal) x0 x1 x2 x3 x4 x5 x6 x7 x8 x9).2.1 (ix2 h d)
      = Ideal.cmp .olt (max (x2 (ix2 h d)) (-x2 (ix2 h d))) (Ideal.ofBits .f32 0x7F800000#32) := rfl

/-- A query projection's entry is below infinity in magnitude. -/
theorem qweight_apply (p : Fin 128) (d : Fin 1024) :
    (fn (F := Ideal) x0 x1 x2 x3 x4 x5 x6 x7 x8 x9).2.2.1 (ix2 p d)
      = Ideal.cmp .olt (max (x3 (ix2 p d)) (-x3 (ix2 p d))) (Ideal.ofBits .f32 0x7F800000#32) := rfl

/-- A query bias's entry is below infinity in magnitude. -/
theorem qbias_apply (p : Fin 128) :
    (fn (F := Ideal) x0 x1 x2 x3 x4 x5 x6 x7 x8 x9).2.2.2.1 (ix1 p)
      = Ideal.cmp .olt (max (x4 (ix1 p)) (-x4 (ix1 p))) (Ideal.ofBits .f32 0x7F800000#32) := rfl

/-- A key projection's entry is below infinity in magnitude. -/
theorem kweight_apply (p : Fin 128) (d : Fin 1024) :
    (fn (F := Ideal) x0 x1 x2 x3 x4 x5 x6 x7 x8 x9).2.2.2.2 (ix2 p d)
      = Ideal.cmp .olt (max (x5 (ix2 p d)) (-x5 (ix2 p d))) (Ideal.ofBits .f32 0x7F800000#32) := rfl

/-- The precondition makes the arguments of the scores real: the rows where they are not masked out, the rest everywhere. -/
theorem real (h0 : (fn (F := Ideal) x0 x1 x2 x3 x4 x5 x6 x7 x8 x9).1 = fun _ => 1#1)
    (h1 : (fn (F := Ideal) x0 x1 x2 x3 x4 x5 x6 x7 x8 x9).2.1 = fun _ => 1#1)
    (h2 : (fn (F := Ideal) x0 x1 x2 x3 x4 x5 x6 x7 x8 x9).2.2.1 = fun _ => 1#1)
    (h3 : (fn (F := Ideal) x0 x1 x2 x3 x4 x5 x6 x7 x8 x9).2.2.2.1 = fun _ => 1#1)
    (h4 : (fn (F := Ideal) x0 x1 x2 x3 x4 x5 x6 x7 x8 x9).2.2.2.2 = fun _ => 1#1) : Cert.KernelIdeal.Hand.Real x0 x1 x2 x3 x4 x5 where
  rows b s d e := by
    have h := (rows_apply x0 x1 x2 x3 x4 x5 x6 x7 x8 x9 b s d).symm.trans (congrFun h0 _)
    rw [e] at h
    exact real_of_below ((BitVec.or_zero (x := _)).symm.trans h)
  query h d := real_of_below ((query_apply x0 x1 x2 x3 x4 x5 x6 x7 x8 x9 h d).symm.trans (congrFun h1 _))
  qweight p d := real_of_below ((qweight_apply x0 x1 x2 x3 x4 x5 x6 x7 x8 x9 p d).symm.trans (congrFun h2 _))
  qbias p := real_of_below ((qbias_apply x0 x1 x2 x3 x4 x5 x6 x7 x8 x9 p).symm.trans (congrFun h3 _))
  kweight p d := real_of_below ((kweight_apply x0 x1 x2 x3 x4 x5 x6 x7 x8 x9 p d).symm.trans (congrFun h4 _))

end Cert.Pre_finite.Hand

end
-- ==== Proof.lean ====
/-  The proof of the claim, assembled: the three frames, the naming of the constant, and the equation of the two results
    over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Same
public import proofs.«01_k».proof.Proof.Precondition
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite.Gen.facts

/-- The kernel with its constant named runs, leaves its arguments and ends with every cell at zero. -/
theorem frame_ideal : Cert.quiescent_KernelIdeal := fun m g _ =>
  (θ_run _ _ _).mono (fun _ h => ⟨fun c => (h.1 c).2, h.2⟩) (Cert.KernelIdeal.Hand.run_result m g)

section
attribute [local instance] Cert.Same.plain

/-- The kernel itself: at bit patterns it is that program. -/
theorem frame_kernel : Cert.quiescent_Kernel := fun m g _ => by
  rw [Cert.Same.main_eq, Cert.Same.defs_eq]
  exact (θ_run _ _ _).mono (fun _ h => ⟨fun c => (h.1 c).2, h.2⟩) (Cert.KernelIdeal.Hand.run_result (F := Bits) m g)

end

/-- The reference: its run keeps its arguments, and it has no cells. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The named constant is the one the word stands for. -/
theorem named : Cert.preserves_Kernel_KernelIdeal :=
  IdealRules.named_const.statement Cert.KernelIdeal.κ "inv_sqrt_p" .f32 0x3DB504F3#32 (((Real.sqrt 128)⁻¹ : ℝ) : EReal) rfl

/-- The kernel's result is the reference's. -/
theorem equal : Cert.algebraic_KernelIdeal_ReferenceIdeal_pre_finite := fun m g m' g' hpre hargs => by
  refine ⟨_, (θ_run _ _ _).mono (fun _ h => h.1) (Cert.KernelIdeal.Hand.run_result m g), ?_⟩
  refine (θ_run _ _ _).mono (fun _ h c => ⟨(h c).1.trans ?_, (h c).2⟩) (Cert.ReferenceIdeal.Value.run m' g')
  obtain ⟨a0, a1, a2, a3, a4, a5, a6, a7, a8, a9⟩ := hargs c
  obtain ⟨p0, p1, p2, p3, p4⟩ := hpre c
  refine (Cert.ReferenceIdeal.Read.val_main_v64_eq m' c).trans ?_
  rw [a0, a1, a2, a3, a4, a5, a6, a7, a8, a9]
  refine ((Cert.KernelIdeal.Hand.final_eq m c).trans (Cert.KernelIdeal.Hand.result_eq m c ?_)).symm
  exact Cert.Pre_finite.Hand.real _ _ _ _ _ _ _ _ _ _ p0 p1 p2 p3 p4

/-- All five claims. -/
theorem claim : Cert.Claim :=
  ⟨Cert.Kernel.Gen.facts, Cert.KernelIdeal.Gen.facts, Cert.ReferenceIdeal.Gen.facts, Cert.Pre_finite.Gen.facts,
    frame_kernel, frame_ideal, fun m g _ => frame_ideal m g trivial, frame_reference, fun m g _ => frame_reference m g trivial, named, equal⟩

end Cert.Proof

end
